-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_ties [hPre_no_ties : Cert.Pre_no_ties.Facts] (m : (ℓ : Loc Cert.KernelIdeal.nD Cert.KernelIdeal.τ Cert.KernelIdeal.sig) → Buf (Elt Ideal) ℓ) : Prop :=
  ∀ c : Dev Cert.KernelIdeal.nD,
    (Cert.Pre_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.1 = (fun _ => 1#1)
    ∧ (Cert.Pre_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.1 = (fun _ => 1#1)
    ∧ (Cert.Pre_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.1 = (fun _ => 1#1)
    ∧ (Cert.Pre_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.2.1 = (fun _ => 1#1)
    ∧ (Cert.Pre_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.2.2.1 = (fun _ => 1#1)
    ∧ (Cert.Pre_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.2.2.2.1 = (fun _ => 1#1)
    ∧ (Cert.Pre_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.2.2.2.2.1 = (fun _ => 1#1)
    ∧ (Cert.Pre_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_ties [hPre_no_ties : Cert.Pre_no_ties.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.1 = (fun _ => 1#1)
    ∧ (Cert.Pre_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.1 = (fun _ => 1#1)
    ∧ (Cert.Pre_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.2.1 = (fun _ => 1#1)
    ∧ (Cert.Pre_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.2.2.1 = (fun _ => 1#1)
    ∧ (Cert.Pre_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.2.2.2.1 = (fun _ => 1#1)
    ∧ (Cert.Pre_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.2.2.2.2.1 = (fun _ => 1#1)
    ∧ (Cert.Pre_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.2.2.2.2.2.1 = (fun _ => 1#1)
    ∧ (Cert.Pre_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_no_ties [hKernelIdeal : Cert.KernelIdeal.Facts] [hPre_no_ties : Cert.Pre_no_ties.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_ties m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_no_ties [hReferenceIdeal : Cert.ReferenceIdeal.Facts] [hPre_no_ties : Cert.Pre_no_ties.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_ties m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_no_ties [hKernelIdeal : Cert.KernelIdeal.Facts] [hReferenceIdeal : Cert.ReferenceIdeal.Facts] [hPre_no_ties : Cert.Pre_no_ties.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_ties m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v268) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_no_ties : Cert.Pre_no_ties.Facts),
    quiescent_Kernel (hKernel := hKernel)
    ∧ quiescent_KernelIdeal (hKernelIdeal := hKernelIdeal)
    ∧ quiescent_KernelIdeal_pre_no_ties (hKernelIdeal := hKernelIdeal) (hPre_no_ties := hPre_no_ties)
    ∧ quiescent_ReferenceIdeal (hReferenceIdeal := hReferenceIdeal)
    ∧ quiescent_ReferenceIdeal_pre_no_ties (hReferenceIdeal := hReferenceIdeal) (hPre_no_ties := hPre_no_ties)
    ∧ preserves_Kernel_KernelIdeal
    ∧ algebraic_KernelIdeal_ReferenceIdeal_pre_no_ties (hKernelIdeal := hKernelIdeal) (hReferenceIdeal := hReferenceIdeal) (hPre_no_ties := hPre_no_ties)
-- ==== Pre_no_ties.lean ====
abbrev S4x2048x4096 : Shape := ⟨3, ![4, 2048, 4096]⟩
abbrev S4x2048 : Shape := ⟨2, ![4, 2048]⟩
abbrev S4096x384 : Shape := ⟨2, ![4096, 384]⟩
abbrev S384 : Shape := ⟨1, ![384]⟩
abbrev S5120x64 : Shape := ⟨2, ![5120, 64]⟩
abbrev S4x2048x384 : Shape := ⟨3, ![4, 2048, 384]⟩
abbrev S1x1x384 : Shape := ⟨3, ![1, 1, 384]⟩
abbrev S3072x64 : Shape := ⟨2, ![3072, 64]⟩
abbrev S_ : Shape := ⟨0, ![]⟩
abbrev S3072 : Shape := ⟨1, ![3072]⟩
abbrev S3072x1 : Shape := ⟨2, ![3072, 1]⟩
abbrev S4x2048x64 : Shape := ⟨3, ![4, 2048, 64]⟩
abbrev S512x64 : Shape := ⟨2, ![512, 64]⟩
abbrev S4x2048x512 : Shape := ⟨3, ![4, 2048, 512]⟩
abbrev S4x2048x9 : Shape := ⟨3, ![4, 2048, 9]⟩
abbrev S4x2048x8 : Shape := ⟨3, ![4, 2048, 8]⟩
abbrev S4x2048x4 : Shape := ⟨3, ![4, 2048, 4]⟩
abbrev S4x2048x3 : Shape := ⟨3, ![4, 2048, 3]⟩

class Facts : Prop where
  bcast_S384_S1x1x384_2 : S384.BroadcastsInDim S1x1x384 (![2] : Fin 1 → Fin S1x1x384.rank)
  bcast_S1x1x384_S4x2048x384_0_1_2 : S1x1x384.BroadcastsInDim S4x2048x384 (![0, 1, 2] : Fin 3 → Fin S4x2048x384.rank)
  slices_S5120x64_S3072x64_0_0 : S5120x64.Slices ![0, 0] S3072x64
  reducesTo_S3072x64_S3072_d1 : S3072x64.ReducesTo [1] S3072
  h_S_ : 0 < S_.numel
  bcast_S3072_S3072x1_0 : S3072.BroadcastsInDim S3072x1 (![0] : Fin 1 → Fin S3072x1.rank)
  bcast_S_S3072x1 : S_.BroadcastsInDim S3072x1 (![] : Fin 0 → Fin S3072x1.rank)
  bcast_S3072x1_S3072x64_0_1 : S3072x1.BroadcastsInDim S3072x64 (![0, 1] : Fin 2 → Fin S3072x64.rank)
  slices_S4x2048x384_S4x2048x64_0_0_0 : S4x2048x384.Slices ![0, 0, 0] S4x2048x64
  slices_S3072x64_S512x64_0_0 : S3072x64.Slices ![0, 0] S512x64
  sliceFits_S4x2048x512_S4x2048x9 : S4x2048x512.Slices (fun _ => 0) S4x2048x9
  slices_S4x2048x9_S4x2048x8_0_0_0 : S4x2048x9.Slices ![0, 0, 0] S4x2048x8
  slices_S4x2048x9_S4x2048x8_0_0_1 : S4x2048x9.Slices ![0, 0, 1] S4x2048x8
  bcast_S_S4x2048x9 : S_.BroadcastsInDim S4x2048x9 (![] : Fin 0 → Fin S4x2048x9.rank)
  slices_S4x2048x384_S4x2048x64_0_0_64 : S4x2048x384.Slices ![0, 0, 64] S4x2048x64
  slices_S3072x64_S512x64_512_0 : S3072x64.Slices ![512, 0] S512x64
  slices_S4x2048x384_S4x2048x64_0_0_128 : S4x2048x384.Slices ![0, 0, 128] S4x2048x64
  slices_S3072x64_S512x64_1024_0 : S3072x64.Slices ![1024, 0] S512x64
  sliceFits_S4x2048x512_S4x2048x4 : S4x2048x512.Slices (fun _ => 0) S4x2048x4
  slices_S4x2048x4_S4x2048x3_0_0_0 : S4x2048x4.Slices ![0, 0, 0] S4x2048x3
  slices_S4x2048x4_S4x2048x3_0_0_1 : S4x2048x4.Slices ![0, 0, 1] S4x2048x3
  bcast_S_S4x2048x4 : S_.BroadcastsInDim S4x2048x4 (![] : Fin 0 → Fin S4x2048x4.rank)
  slices_S4x2048x384_S4x2048x64_0_0_192 : S4x2048x384.Slices ![0, 0, 192] S4x2048x64
  slices_S3072x64_S512x64_1536_0 : S3072x64.Slices ![1536, 0] S512x64
  slices_S4x2048x384_S4x2048x64_0_0_256 : S4x2048x384.Slices ![0, 0, 256] S4x2048x64
  slices_S3072x64_S512x64_2048_0 : S3072x64.Slices ![2048, 0] S512x64
  slices_S4x2048x384_S4x2048x64_0_0_320 : S4x2048x384.Slices ![0, 0, 320] S4x2048x64
  slices_S3072x64_S512x64_2560_0 : S3072x64.Slices ![2560, 0] S512x64
  dot_S4x2048x4096_S4096x384_S4x2048x384_2_0_01_1_n_n_wf : DotDims.WF S4x2048x4096 S4096x384 S4x2048x384 [2] [0] [0, 1] [1] [] []
  dot_S4x2048x64_S512x64_S4x2048x512_2_1_01_0_n_n_wf : DotDims.WF S4x2048x64 S512x64 S4x2048x512 [2] [1] [0, 1] [0] [] []

variable [Facts]

def dot_S4x2048x4096_S4096x384_S4x2048x384_2_0_01_1_n_n : DotDims S4x2048x4096 S4096x384 S4x2048x384 where
  lhsContracting := [2]
  rhsContracting := [0]
  lhsNonContracting := [0, 1]
  rhsNonContracting := [1]
  lhsBatch := []
  rhsBatch := []
  wf := dot_S4x2048x4096_S4096x384_S4x2048x384_2_0_01_1_n_n_wf
def dot_S4x2048x64_S512x64_S4x2048x512_2_1_01_0_n_n : DotDims S4x2048x64 S512x64 S4x2048x512 where
  lhsContracting := [2]
  rhsContracting := [1]
  lhsNonContracting := [0, 1]
  rhsNonContracting := [0]
  lhsBatch := []
  rhsBatch := []
  wf := dot_S4x2048x64_S512x64_S4x2048x512_2_1_01_0_n_n_wf
def fn_part3 {F : FTy → Type} [FloatOps F] (main_v18 : IVec S4x2048x8 1) (main_v20 : IVec S4x2048x9 1) (main_v26 : IVec S4x2048x8 1) (main_v28 : IVec S4x2048x9 1) (main_v34 : IVec S4x2048x3 1) (main_v36 : IVec S4x2048x4 1) (main_v42 : IVec S4x2048x8 1) (main_v44 : IVec S4x2048x9 1) (main_v50 : IVec S4x2048x8 1) (main_v52 : IVec S4x2048x9 1) (main_v53 : FVec F S4x2048x64 .f32) (main_v54 : FVec F S512x64 .f32) : IVec S4x2048x8 1 × IVec S4x2048x9 1 × IVec S4x2048x8 1 × IVec S4x2048x9 1 × IVec S4x2048x3 1 × IVec S4x2048x4 1 × IVec S4x2048x8 1 × IVec S4x2048x9 1 × IVec S4x2048x8 1 × IVec S4x2048x9 1 × IVec S4x2048x3 1 × IVec S4x2048x4 1 :=
  let main_v55 : FVec F S4x2048x512 .f32 := (fun l r => Host.dotGeneral dot_S4x2048x64_S512x64_S4x2048x512_2_1_01_0_n_n none l r) main_v53 main_v54
  let main_values_14 : FVec F S4x2048x4 .f32 := (fun x => (Host.topK S4x2048x4 2 (FloatOps.cmpfTotal .gt) x sliceFits_S4x2048x512_S4x2048x4).1) main_v55
  let main_indices_15 : IVec S4x2048x4 32 := (fun x => (Host.topK S4x2048x4 2 (FloatOps.cmpfTotal .gt) x sliceFits_S4x2048x512_S4x2048x4).2) main_v55
  let main_v56 : FVec F S4x2048x3 .f32 := (extractStridedSlice S4x2048x3 ![0, 0, 0] · slices_S4x2048x4_S4x2048x3_0_0_0) main_values_14
  let main_v57 : FVec F S4x2048x3 .f32 := (extractStridedSlice S4x2048x3 ![0, 0, 1] · slices_S4x2048x4_S4x2048x3_0_0_1) main_values_14
  let main_v58 : IVec S4x2048x3 1 := cmpf .ogt main_v56 main_v57
  let main_cst_16 : FVec F S_ .f32 := constant S_ .f32 0x7F800000#32
  let main_v59 : FVec F S4x2048x4 .f32 := broadcastInDim S4x2048x4 ![] bcast_S_S4x2048x4 main_cst_16
  let main_v60 : IVec S4x2048x4 1 := cmpf .olt main_values_14 main_v59
  (main_v18, main_v20, main_v26, main_v28, main_v34, main_v36, main_v42, main_v44, main_v50, main_v52, main_v58, main_v60)

def fn_part2 {F : FTy → Type} [FloatOps F] (main_v3 : FVec F S4x2048x384 .f32) (main_v12 : FVec F S3072x64 .f32) (main_v18 : IVec S4x2048x8 1) (main_v20 : IVec S4x2048x9 1) (main_v26 : IVec S4x2048x8 1) (main_v28 : IVec S4x2048x9 1) (main_v34 : IVec S4x2048x3 1) (main_v36 : IVec S4x2048x4 1) : IVec S4x2048x8 1 × IVec S4x2048x9 1 × IVec S4x2048x8 1 × IVec S4x2048x9 1 × IVec S4x2048x3 1 × IVec S4x2048x4 1 × IVec S4x2048x8 1 × IVec S4x2048x9 1 × IVec S4x2048x8 1 × IVec S4x2048x9 1 × IVec S4x2048x3 1 × IVec S4x2048x4 1 :=
  let main_v37 : FVec F S4x2048x64 .f32 := (extractStridedSlice S4x2048x64 ![0, 0, 192] · slices_S4x2048x384_S4x2048x64_0_0_192) main_v3
  let main_v38 : FVec F S512x64 .f32 := (extractStridedSlice S512x64 ![1536, 0] · slices_S3072x64_S512x64_1536_0) main_v12
  let main_v39 : FVec F S4x2048x512 .f32 := (fun l r => Host.dotGeneral dot_S4x2048x64_S512x64_S4x2048x512_2_1_01_0_n_n none l r) main_v37 main_v38
  let main_values_8 : FVec F S4x2048x9 .f32 := (fun x => (Host.topK S4x2048x9 2 (FloatOps.cmpfTotal .gt) x sliceFits_S4x2048x512_S4x2048x9).1) main_v39
  let main_indices_9 : IVec S4x2048x9 32 := (fun x => (Host.topK S4x2048x9 2 (FloatOps.cmpfTotal .gt) x sliceFits_S4x2048x512_S4x2048x9).2) main_v39
  let main_v40 : FVec F S4x2048x8 .f32 := (extractStridedSlice S4x2048x8 ![0, 0, 0] · slices_S4x2048x9_S4x2048x8_0_0_0) main_values_8
  let main_v41 : FVec F S4x2048x8 .f32 := (extractStridedSlice S4x2048x8 ![0, 0, 1] · slices_S4x2048x9_S4x2048x8_0_0_1) main_values_8
  let main_v42 : IVec S4x2048x8 1 := cmpf .ogt main_v40 main_v41
  let main_cst_10 : FVec F S_ .f32 := constant S_ .f32 0x7F800000#32
  let main_v43 : FVec F S4x2048x9 .f32 := broadcastInDim S4x2048x9 ![] bcast_S_S4x2048x9 main_cst_10
  let main_v44 : IVec S4x2048x9 1 := cmpf .olt main_values_8 main_v43
  let main_v45 : FVec F S4x2048x64 .f32 := (extractStridedSlice S4x2048x64 ![0, 0, 256] · slices_S4x2048x384_S4x2048x64_0_0_256) main_v3
  let main_v46 : FVec F S512x64 .f32 := (extractStridedSlice S512x64 ![2048, 0] · slices_S3072x64_S512x64_2048_0) main_v12
  let main_v47 : FVec F S4x2048x512 .f32 := (fun l r => Host.dotGeneral dot_S4x2048x64_S512x64_S4x2048x512_2_1_01_0_n_n none l r) main_v45 main_v46
  let main_values_11 : FVec F S4x2048x9 .f32 := (fun x => (Host.topK S4x2048x9 2 (FloatOps.cmpfTotal .gt) x sliceFits_S4x2048x512_S4x2048x9).1) main_v47
  let main_indices_12 : IVec S4x2048x9 32 := (fun x => (Host.topK S4x2048x9 2 (FloatOps.cmpfTotal .gt) x sliceFits_S4x2048x512_S4x2048x9).2) main_v47
  let main_v48 : FVec F S4x2048x8 .f32 := (extractStridedSlice S4x2048x8 ![0, 0, 0] · slices_S4x2048x9_S4x2048x8_0_0_0) main_values_11
  let main_v49 : FVec F S4x2048x8 .f32 := (extractStridedSlice S4x2048x8 ![0, 0, 1] · slices_S4x2048x9_S4x2048x8_0_0_1) main_values_11
  let main_v50 : IVec S4x2048x8 1 := cmpf .ogt main_v48 main_v49
  let main_cst_13 : FVec F S_ .f32 := constant S_ .f32 0x7F800000#32
  let main_v51 : FVec F S4x2048x9 .f32 := broadcastInDim S4x2048x9 ![] bcast_S_S4x2048x9 main_cst_13
  let main_v52 : IVec S4x2048x9 1 := cmpf .olt main_values_11 main_v51
  let main_v53 : FVec F S4x2048x64 .f32 := (extractStridedSlice S4x2048x64 ![0, 0, 320] · slices_S4x2048x384_S4x2048x64_0_0_320) main_v3
  let main_v54 : FVec F S512x64 .f32 := (extractStridedSlice S512x64 ![2560, 0] · slices_S3072x64_S512x64_2560_0) main_v12
  fn_part3 (F := F) main_v18 main_v20 main_v26 main_v28 main_v34 main_v36 main_v42 main_v44 main_v50 main_v52 main_v53 main_v54

def fn_part1 {F : FTy → Type} [FloatOps F] (main_v3 : FVec F S4x2048x384 .f32) (main_v12 : FVec F S3072x64 .f32) (main_values : FVec F S4x2048x9 .f32) (main_v18 : IVec S4x2048x8 1) (main_cst_1 : FVec F S_ .f32) : IVec S4x2048x8 1 × IVec S4x2048x9 1 × IVec S4x2048x8 1 × IVec S4x2048x9 1 × IVec S4x2048x3 1 × IVec S4x2048x4 1 × IVec S4x2048x8 1 × IVec S4x2048x9 1 × IVec S4x2048x8 1 × IVec S4x2048x9 1 × IVec S4x2048x3 1 × IVec S4x2048x4 1 :=
  let main_v19 : FVec F S4x2048x9 .f32 := broadcastInDim S4x2048x9 ![] bcast_S_S4x2048x9 main_cst_1
  let main_v20 : IVec S4x2048x9 1 := cmpf .olt main_values main_v19
  let main_v21 : FVec F S4x2048x64 .f32 := (extractStridedSlice S4x2048x64 ![0, 0, 64] · slices_S4x2048x384_S4x2048x64_0_0_64) main_v3
  let main_v22 : FVec F S512x64 .f32 := (extractStridedSlice S512x64 ![512, 0] · slices_S3072x64_S512x64_512_0) main_v12
  let main_v23 : FVec F S4x2048x512 .f32 := (fun l r => Host.dotGeneral dot_S4x2048x64_S512x64_S4x2048x512_2_1_01_0_n_n none l r) main_v21 main_v22
  let main_values_2 : FVec F S4x2048x9 .f32 := (fun x => (Host.topK S4x2048x9 2 (FloatOps.cmpfTotal .gt) x sliceFits_S4x2048x512_S4x2048x9).1) main_v23
  let main_indices_3 : IVec S4x2048x9 32 := (fun x => (Host.topK S4x2048x9 2 (FloatOps.cmpfTotal .gt) x sliceFits_S4x2048x512_S4x2048x9).2) main_v23
  let main_v24 : FVec F S4x2048x8 .f32 := (extractStridedSlice S4x2048x8 ![0, 0, 0] · slices_S4x2048x9_S4x2048x8_0_0_0) main_values_2
  let main_v25 : FVec F S4x2048x8 .f32 := (extractStridedSlice S4x2048x8 ![0, 0, 1] · slices_S4x2048x9_S4x2048x8_0_0_1) main_values_2
  let main_v26 : IVec S4x2048x8 1 := cmpf .ogt main_v24 main_v25
  let main_cst_4 : FVec F S_ .f32 := constant S_ .f32 0x7F800000#32
  let main_v27 : FVec F S4x2048x9 .f32 := broadcastInDim S4x2048x9 ![] bcast_S_S4x2048x9 main_cst_4
  let main_v28 : IVec S4x2048x9 1 := cmpf .olt main_values_2 main_v27
  let main_v29 : FVec F S4x2048x64 .f32 := (extractStridedSlice S4x2048x64 ![0, 0, 128] · slices_S4x2048x384_S4x2048x64_0_0_128) main_v3
  let main_v30 : FVec F S512x64 .f32 := (extractStridedSlice S512x64 ![1024, 0] · slices_S3072x64_S512x64_1024_0) main_v12
  let main_v31 : FVec F S4x2048x512 .f32 := (fun l r => Host.dotGeneral dot_S4x2048x64_S512x64_S4x2048x512_2_1_01_0_n_n none l r) main_v29 main_v30
  let main_values_5 : FVec F S4x2048x4 .f32 := (fun x => (Host.topK S4x2048x4 2 (FloatOps.cmpfTotal .gt) x sliceFits_S4x2048x512_S4x2048x4).1) main_v31
  let main_indices_6 : IVec S4x2048x4 32 := (fun x => (Host.topK S4x2048x4 2 (FloatOps.cmpfTotal .gt) x sliceFits_S4x2048x512_S4x2048x4).2) main_v31
  let main_v32 : FVec F S4x2048x3 .f32 := (extractStridedSlice S4x2048x3 ![0, 0, 0] · slices_S4x2048x4_S4x2048x3_0_0_0) main_values_5
  let main_v33 : FVec F S4x2048x3 .f32 := (extractStridedSlice S4x2048x3 ![0, 0, 1] · slices_S4x2048x4_S4x2048x3_0_0_1) main_values_5
  let main_v34 : IVec S4x2048x3 1 := cmpf .ogt main_v32 main_v33
  let main_cst_7 : FVec F S_ .f32 := constant S_ .f32 0x7F800000#32
  let main_v35 : FVec F S4x2048x4 .f32 := broadcastInDim S4x2048x4 ![] bcast_S_S4x2048x4 main_cst_7
  let main_v36 : IVec S4x2048x4 1 := cmpf .olt main_values_5 main_v35
  fn_part2 (F := F) main_v3 main_v12 main_v18 main_v20 main_v26 main_v28 main_v34 main_v36

def fn {F : FTy → Type} [FloatOps F] (main_arg0 : FVec F S4x2048x4096 .f32) (main_arg1 : FVec F S4x2048 .f32) (main_arg2 : FVec F S4096x384 .f32) (main_arg3 : FVec F S384 .f32) (main_arg4 : FVec F S5120x64 .f32) : IVec S4x2048x8 1 × IVec S4x2048x9 1 × IVec S4x2048x8 1 × IVec S4x2048x9 1 × IVec S4x2048x3 1 × IVec S4x2048x4 1 × IVec S4x2048x8 1 × IVec S4x2048x9 1 × IVec S4x2048x8 1 × IVec S4x2048x9 1 × IVec S4x2048x3 1 × IVec S4x2048x4 1 :=
  let main_v0 : FVec F S4x2048x384 .f32 := (fun l r => Host.dotGeneral dot_S4x2048x4096_S4096x384_S4x2048x384_2_0_01_1_n_n none l r) main_arg0 main_arg2
  let main_v1 : FVec F S1x1x384 .f32 := broadcastInDim S1x1x384 ![2] bcast_S384_S1x1x384_2 main_arg3
  let main_v2 : FVec F S4x2048x384 .f32 := broadcastInDim S4x2048x384 ![0, 1, 2] bcast_S1x1x384_S4x2048x384_0_1_2 main_v1
  let main_v3 : FVec F S4x2048x384 .f32 := addf main_v0 main_v2
  let main_v4 : FVec F S3072x64 .f32 := (extractStridedSlice S3072x64 ![0, 0] · slices_S5120x64_S3072x64_0_0) main_arg4
  let main_v5 : FVec F S3072x64 .f32 := mulf main_v4 main_v4
  let main_cst : FVec F S_ .f32 := constant S_ .f32 0x00000000#32
  let main_v6 : FVec F S3072 .f32 := (fun x v => Host.reduceAdd x v reducesTo_S3072x64_S3072_d1 h_S_) main_v5 main_cst
  let main_v7 : FVec F S3072x1 .f32 := broadcastInDim S3072x1 ![0] bcast_S3072_S3072x1_0 main_v6
  let main_v8 : FVec F S3072x1 .f32 := Host.sqrt main_v7
  let main_cst_0 : FVec F S_ .f32 := constant S_ .f32 0x2B8CBCCC#32
  let main_v9 : FVec F S3072x1 .f32 := broadcastInDim S3072x1 ![] bcast_S_S3072x1 main_cst_0
  let main_v10 : FVec F S3072x1 .f32 := maximumf main_v8 main_v9
  let main_v11 : FVec F S3072x64 .f32 := broadcastInDim S3072x64 ![0, 1] bcast_S3072x1_S3072x64_0_1 main_v10
  let main_v12 : FVec F S3072x64 .f32 := Host.divf main_v4 main_v11
  let main_v13 : FVec F S4x2048x64 .f32 := (extractStridedSlice S4x2048x64 ![0, 0, 0] · slices_S4x2048x384_S4x2048x64_0_0_0) main_v3
  let main_v14 : FVec F S512x64 .f32 := (extractStridedSlice S512x64 ![0, 0] · slices_S3072x64_S512x64_0_0) main_v12
  let main_v15 : FVec F S4x2048x512 .f32 := (fun l r => Host.dotGeneral dot_S4x2048x64_S512x64_S4x2048x512_2_1_01_0_n_n none l r) main_v13 main_v14
  let main_values : FVec F S4x2048x9 .f32 := (fun x => (Host.topK S4x2048x9 2 (FloatOps.cmpfTotal .gt) x sliceFits_S4x2048x512_S4x2048x9).1) main_v15
  let main_indices : IVec S4x2048x9 32 := (fun x => (Host.topK S4x2048x9 2 (FloatOps.cmpfTotal .gt) x sliceFits_S4x2048x512_S4x2048x9).2) main_v15
  let main_v16 : FVec F S4x2048x8 .f32 := (extractStridedSlice S4x2048x8 ![0, 0, 0] · slices_S4x2048x9_S4x2048x8_0_0_0) main_values
  let main_v17 : FVec F S4x2048x8 .f32 := (extractStridedSlice S4x2048x8 ![0, 0, 1] · slices_S4x2048x9_S4x2048x8_0_0_1) main_values
  let main_v18 : IVec S4x2048x8 1 := cmpf .ogt main_v16 main_v17
  let main_cst_1 : FVec F S_ .f32 := constant S_ .f32 0x7F800000#32
  fn_part1 (F := F) main_v3 main_v12 main_values main_v18 main_cst_1
-- ==== Kernel.lean ====
abbrev S4x2048x4096 : Shape := ⟨3, ![4, 2048, 4096]⟩
abbrev S4x2048 : Shape := ⟨2, ![4, 2048]⟩
abbrev S4096x384 : Shape := ⟨2, ![4096, 384]⟩
abbrev S384 : Shape := ⟨1, ![384]⟩
abbrev S5120x64 : Shape := ⟨2, ![5120, 64]⟩
abbrev S8192x4096 : Shape := ⟨2, ![8192, 4096]⟩
abbrev S3072x64 : Shape := ⟨2, ![3072, 64]⟩
abbrev S1x384 : Shape := ⟨2, ![1, 384]⟩
abbrev S8192x3072 : Shape := ⟨2, ![8192, 3072]⟩
abbrev S512x4096 : Shape := ⟨2, ![512, 4096]⟩
abbrev S512x3072 : Shape := ⟨2, ![512, 3072]⟩
abbrev S512x384 : Shape := ⟨2, ![512, 384]⟩
abbrev S3072 : Shape := ⟨1, ![3072]⟩
abbrev S3072x1 : Shape := ⟨2, ![3072, 1]⟩
abbrev S512x64 : Shape := ⟨2, ![512, 64]⟩
abbrev S512x512 : Shape := ⟨2, ![512, 512]⟩
abbrev S512 : Shape := ⟨1, ![512]⟩
abbrev S512x1 : Shape := ⟨2, ![512, 1]⟩
abbrev S4x2048x3072 : Shape := ⟨3, ![4, 2048, 3072]⟩

abbrev nBuf : Space → Nat
  | .hbm => 10
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S4x2048, .f32⟩
  | .hbm, ⟨2, _⟩ => ⟨S4096x384, .f32⟩
  | .hbm, ⟨3, _⟩ => ⟨S384, .f32⟩
  | .hbm, ⟨4, _⟩ => ⟨S5120x64, .f32⟩
  | .hbm, ⟨5, _⟩ => ⟨S8192x4096, .f32⟩
  | .hbm, ⟨6, _⟩ => ⟨S3072x64, .f32⟩
  | .hbm, ⟨7, _⟩ => ⟨S1x384, .f32⟩
  | .hbm, ⟨8, _⟩ => ⟨S8192x3072, .f32⟩
  | .hbm, ⟨9, _⟩ => ⟨S4x2048x3072, .f32⟩
  | .local _ .vmem, ⟨0, _⟩ => ⟨S512x4096, .f32⟩
  | .local _ .vmem, ⟨1, _⟩ => ⟨S512x4096, .f32⟩
  | .local _ .vmem, ⟨2, _⟩ => ⟨S4096x384, .f32⟩
  | .local _ .vmem, ⟨3, _⟩ => ⟨S1x384, .f32⟩
  | .local _ .vmem, ⟨4, _⟩ => ⟨S3072x64, .f32⟩
  | .local _ .vmem, ⟨5, _⟩ => ⟨S512x3072, .f32⟩
  | .local _ .vmem, ⟨6, _⟩ => ⟨S512x3072, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3072x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4x2048x4096 : Shape := ⟨3, ![4, 2048, 4096]⟩
abbrev S4x2048 : Shape := ⟨2, ![4, 2048]⟩
abbrev S4096x384 : Shape := ⟨2, ![4096, 384]⟩
abbrev S384 : Shape := ⟨1, ![384]⟩
abbrev S5120x64 : Shape := ⟨2, ![5120, 64]⟩
abbrev S4x2048x384 : Shape := ⟨3, ![4, 2048, 384]⟩
abbrev S1x1x384 : Shape := ⟨3, ![1, 1, 384]⟩
abbrev S4x2048x64 : Shape := ⟨3, ![4, 2048, 64]⟩
abbrev S3072x64 : Shape := ⟨2, ![3072, 64]⟩
abbrev S_ : Shape := ⟨0, ![]⟩
abbrev S3072 : Shape := ⟨1, ![3072]⟩
abbrev S3072x1 : Shape := ⟨2, ![3072, 1]⟩
abbrev S512x64 : Shape := ⟨2, ![512, 64]⟩
abbrev S4x2048x512 : Shape := ⟨3, ![4, 2048, 512]⟩
abbrev S4x2048x1 : Shape := ⟨3, ![4, 2048, 1]⟩
abbrev S4x2048x8 : Shape := ⟨3, ![4, 2048, 8]⟩
abbrev S4 : Shape := ⟨1, ![4]⟩
abbrev S4x1x1 : Shape := ⟨3, ![4, 1, 1]⟩
abbrev S2048 : Shape := ⟨1, ![2048]⟩
abbrev S1x2048x1 : Shape := ⟨3, ![1, 2048, 1]⟩
abbrev S4x2048x8x1 : Shape := ⟨4, ![4, 2048, 8, 1]⟩
abbrev S4x2048x8x3 : Shape := ⟨4, ![4, 2048, 8, 3]⟩
abbrev S4x2048x3 : Shape := ⟨3, ![4, 2048, 3]⟩
abbrev S4x2048x3x1 : Shape := ⟨4, ![4, 2048, 3, 1]⟩
abbrev S4x2048x3x3 : Shape := ⟨4, ![4, 2048, 3, 3]⟩
abbrev S4x2048x3072 : Shape := ⟨3, ![4, 2048, 3072]⟩

abbrev nBuf : Space → Nat
  | .hbm => 351
  | .vmem => 0
  | .smem => 0
  | _ => 0

abbrev hbmTy0_0 (i : Nat) : BufTy := match i % 128 with
  | 0 => ⟨S4x2048x4096, .f32⟩
  | 1 => ⟨S4x2048, .f32⟩
  | 2 => ⟨S4096x384, .f32⟩
  | 3 => ⟨S384, .f32⟩
  | 4 => ⟨S5120x64, .f32⟩
  | 5 => ⟨S4x2048x384, .f32⟩
  | 6 => ⟨S1x1x384, .f32⟩
  | 7 => ⟨S4x2048x384, .f32⟩
  | 8 => ⟨S4x2048x384, .f32⟩
  | 9 => ⟨S4x2048x64, .f32⟩
  | 10 => ⟨S4x2048x64, .f32⟩
  | 11 => ⟨S4x2048x64, .f32⟩
  | 12 => ⟨S4x2048x64, .f32⟩
  | 13 => ⟨S4x2048x64, .f32⟩
  | 14 => ⟨S4x2048x64, .f32⟩
  | 15 => ⟨S3072x64, .f32⟩
  | 16 => ⟨S3072x64, .f32⟩
  | 17 => ⟨S_, .f32⟩
  | 18 => ⟨S3072, .f32⟩
  | 19 => ⟨S3072x1, .f32⟩
  | 20 => ⟨S3072x1, .f32⟩
  | 21 => ⟨S_, .f32⟩
  | 22 => ⟨S3072x1, .f32⟩
  | 23 => ⟨S3072x1, .f32⟩
  | 24 => ⟨S3072x64, .f32⟩
  | 25 => ⟨S3072x64, .f32⟩
  | 26 => ⟨S512x64, .f32⟩
  | 27 => ⟨S4x2048x512, .f32⟩
  | 28 => ⟨S_, .f32⟩
  | 29 => ⟨S4x2048, .f32⟩
  | 30 => ⟨S_, .f32⟩
  | 31 => ⟨S4x2048, .f32⟩
  | 32 => ⟨S4x2048, .f32⟩
  | 33 => ⟨S4x2048x1, .f32⟩
  | 34 => ⟨S4x2048x512, .f32⟩
  | 35 => ⟨S4x2048x512, .f32⟩
  | 36 => ⟨S4x2048x512, .f32⟩
  | 37 => ⟨S_, .f32⟩
  | 38 => ⟨S4x2048, .f32⟩
  | 39 => ⟨S4x2048x1, .f32⟩
  | 40 => ⟨S4x2048x512, .f32⟩
  | 41 => ⟨S4x2048x512, .f32⟩
  | 42 => ⟨S4x2048x8, .f32⟩
  | 43 => ⟨S4x2048x8, .i32⟩
  | 44 => ⟨S4, .i32⟩
  | 45 => ⟨S4x1x1, .i32⟩
  | 46 => ⟨S2048, .i32⟩
  | 47 => ⟨S1x2048x1, .i32⟩
  | 48 => ⟨S_, .f32⟩
  | 49 => ⟨S4x2048x512, .f32⟩
  | 50 => ⟨S_, .i32⟩
  | 51 => ⟨S4x1x1, .i32⟩
  | 52 => ⟨S4x1x1, .i1⟩
  | 53 => ⟨S_, .i32⟩
  | 54 => ⟨S4x1x1, .i32⟩
  | 55 => ⟨S4x1x1, .i32⟩
  | 56 => ⟨S4x1x1, .i32⟩
  | 57 => ⟨S_, .i32⟩
  | 58 => ⟨S1x2048x1, .i32⟩
  | 59 => ⟨S1x2048x1, .i1⟩
  | 60 => ⟨S_, .i32⟩
  | 61 => ⟨S1x2048x1, .i32⟩
  | 62 => ⟨S1x2048x1, .i32⟩
  | 63 => ⟨S1x2048x1, .i32⟩
  | 64 => ⟨S_, .i32⟩
  | 65 => ⟨S4x2048x8, .i32⟩
  | 66 => ⟨S4x2048x8, .i1⟩
  | 67 => ⟨S_, .i32⟩
  | 68 => ⟨S4x2048x8, .i32⟩
  | 69 => ⟨S4x2048x8, .i32⟩
  | 70 => ⟨S4x2048x8, .i32⟩
  | 71 => ⟨S4x2048x8, .i32⟩
  | 72 => ⟨S4x2048x8, .i32⟩
  | 73 => ⟨S4x2048x8x1, .i32⟩
  | 74 => ⟨S4x2048x8x1, .i32⟩
  | 75 => ⟨S4x2048x8x1, .i32⟩
  | 76 => ⟨S4x2048x8x3, .i32⟩
  | 77 => ⟨S4x2048x512, .f32⟩
  | 78 => ⟨S4x2048x512, .f32⟩
  | 79 => ⟨S4x2048x512, .f32⟩
  | 80 => ⟨S512x64, .f32⟩
  | 81 => ⟨S4x2048x512, .f32⟩
  | 82 => ⟨S_, .f32⟩
  | 83 => ⟨S4x2048, .f32⟩
  | 84 => ⟨S_, .f32⟩
  | 85 => ⟨S4x2048, .f32⟩
  | 86 => ⟨S4x2048, .f32⟩
  | 87 => ⟨S4x2048x1, .f32⟩
  | 88 => ⟨S4x2048x512, .f32⟩
  | 89 => ⟨S4x2048x512, .f32⟩
  | 90 => ⟨S4x2048x512, .f32⟩
  | 91 => ⟨S_, .f32⟩
  | 92 => ⟨S4x2048, .f32⟩
  | 93 => ⟨S4x2048x1, .f32⟩
  | 94 => ⟨S4x2048x512, .f32⟩
  | 95 => ⟨S4x2048x512, .f32⟩
  | 96 => ⟨S4x2048x8, .f32⟩
  | 97 => ⟨S4x2048x8, .i32⟩
  | 98 => ⟨S4, .i32⟩
  | 99 => ⟨S4x1x1, .i32⟩
  | 100 => ⟨S2048, .i32⟩
  | 101 => ⟨S1x2048x1, .i32⟩
  | 102 => ⟨S_, .f32⟩
  | 103 => ⟨S4x2048x512, .f32⟩
  | 104 => ⟨S_, .i32⟩
  | 105 => ⟨S4x1x1, .i32⟩
  | 106 => ⟨S4x1x1, .i1⟩
  | 107 => ⟨S_, .i32⟩
  | 108 => ⟨S4x1x1, .i32⟩
  | 109 => ⟨S4x1x1, .i32⟩
  | 110 => ⟨S4x1x1, .i32⟩
  | 111 => ⟨S_, .i32⟩
  | 112 => ⟨S1x2048x1, .i32⟩
  | 113 => ⟨S1x2048x1, .i1⟩
  | 114 => ⟨S_, .i32⟩
  | 115 => ⟨S1x2048x1, .i32⟩
  | 116 => ⟨S1x2048x1, .i32⟩
  | 117 => ⟨S1x2048x1, .i32⟩
  | 118 => ⟨S_, .i32⟩
  | 119 => ⟨S4x2048x8, .i32⟩
  | 120 => ⟨S4x2048x8, .i1⟩
  | 121 => ⟨S_, .i32⟩
  | 122 => ⟨S4x2048x8, .i32⟩
  | 123 => ⟨S4x2048x8, .i32⟩
  | 124 => ⟨S4x2048x8, .i32⟩
  | 125 => ⟨S4x2048x8, .i32⟩
  | 126 => ⟨S4x2048x8, .i32⟩
  | 127 => ⟨S4x2048x8x1, .i32⟩
  | _ => ⟨S4x2048x4096, .f32⟩

abbrev hbmTy0_1 (i : Nat) : BufTy := match i % 128 with
  | 0 => ⟨S4x2048x8x1, .i32⟩
  | 1 => ⟨S4x2048x8x1, .i32⟩
  | 2 => ⟨S4x2048x8x3, .i32⟩
  | 3 => ⟨S4x2048x512, .f32⟩
  | 4 => ⟨S4x2048x512, .f32⟩
  | 5 => ⟨S4x2048x512, .f32⟩
  | 6 => ⟨S512x64, .f32⟩
  | 7 => ⟨S4x2048x512, .f32⟩
  | 8 => ⟨S_, .f32⟩
  | 9 => ⟨S4x2048, .f32⟩
  | 10 => ⟨S_, .f32⟩
  | 11 => ⟨S4x2048, .f32⟩
  | 12 => ⟨S4x2048, .f32⟩
  | 13 => ⟨S4x2048x1, .f32⟩
  | 14 => ⟨S4x2048x512, .f32⟩
  | 15 => ⟨S4x2048x512, .f32⟩
  | 16 => ⟨S4x2048x512, .f32⟩
  | 17 => ⟨S_, .f32⟩
  | 18 => ⟨S4x2048, .f32⟩
  | 19 => ⟨S4x2048x1, .f32⟩
  | 20 => ⟨S4x2048x512, .f32⟩
  | 21 => ⟨S4x2048x512, .f32⟩
  | 22 => ⟨S4x2048x3, .f32⟩
  | 23 => ⟨S4x2048x3, .i32⟩
  | 24 => ⟨S4, .i32⟩
  | 25 => ⟨S4x1x1, .i32⟩
  | 26 => ⟨S2048, .i32⟩
  | 27 => ⟨S1x2048x1, .i32⟩
  | 28 => ⟨S_, .f32⟩
  | 29 => ⟨S4x2048x512, .f32⟩
  | 30 => ⟨S_, .i32⟩
  | 31 => ⟨S4x1x1, .i32⟩
  | 32 => ⟨S4x1x1, .i1⟩
  | 33 => ⟨S_, .i32⟩
  | 34 => ⟨S4x1x1, .i32⟩
  | 35 => ⟨S4x1x1, .i32⟩
  | 36 => ⟨S4x1x1, .i32⟩
  | 37 => ⟨S_, .i32⟩
  | 38 => ⟨S1x2048x1, .i32⟩
  | 39 => ⟨S1x2048x1, .i1⟩
  | 40 => ⟨S_, .i32⟩
  | 41 => ⟨S1x2048x1, .i32⟩
  | 42 => ⟨S1x2048x1, .i32⟩
  | 43 => ⟨S1x2048x1, .i32⟩
  | 44 => ⟨S_, .i32⟩
  | 45 => ⟨S4x2048x3, .i32⟩
  | 46 => ⟨S4x2048x3, .i1⟩
  | 47 => ⟨S_, .i32⟩
  | 48 => ⟨S4x2048x3, .i32⟩
  | 49 => ⟨S4x2048x3, .i32⟩
  | 50 => ⟨S4x2048x3, .i32⟩
  | 51 => ⟨S4x2048x3, .i32⟩
  | 52 => ⟨S4x2048x3, .i32⟩
  | 53 => ⟨S4x2048x3x1, .i32⟩
  | 54 => ⟨S4x2048x3x1, .i32⟩
  | 55 => ⟨S4x2048x3x1, .i32⟩
  | 56 => ⟨S4x2048x3x3, .i32⟩
  | 57 => ⟨S4x2048x512, .f32⟩
  | 58 => ⟨S4x2048x512, .f32⟩
  | 59 => ⟨S4x2048x512, .f32⟩
  | 60 => ⟨S512x64, .f32⟩
  | 61 => ⟨S4x2048x512, .f32⟩
  | 62 => ⟨S_, .f32⟩
  | 63 => ⟨S4x2048, .f32⟩
  | 64 => ⟨S_, .f32⟩
  | 65 => ⟨S4x2048, .f32⟩
  | 66 => ⟨S4x2048, .f32⟩
  | 67 => ⟨S4x2048x1, .f32⟩
  | 68 => ⟨S4x2048x512, .f32⟩
  | 69 => ⟨S4x2048x512, .f32⟩
  | 70 => ⟨S4x2048x512, .f32⟩
  | 71 => ⟨S_, .f32⟩
  | 72 => ⟨S4x2048, .f32⟩
  | 73 => ⟨S4x2048x1, .f32⟩
  | 74 => ⟨S4x2048x512, .f32⟩
  | 75 => ⟨S4x2048x512, .f32⟩
  | 76 => ⟨S4x2048x8, .f32⟩
  | 77 => ⟨S4x2048x8, .i32⟩
  | 78 => ⟨S4, .i32⟩
  | 79 => ⟨S4x1x1, .i32⟩
  | 80 => ⟨S2048, .i32⟩
  | 81 => ⟨S1x2048x1, .i32⟩
  | 82 => ⟨S_, .f32⟩
  | 83 => ⟨S4x2048x512, .f32⟩
  | 84 => ⟨S_, .i32⟩
  | 85 => ⟨S4x1x1, .i32⟩
  | 86 => ⟨S4x1x1, .i1⟩
  | 87 => ⟨S_, .i32⟩
  | 88 => ⟨S4x1x1, .i32⟩
  | 89 => ⟨S4x1x1, .i32⟩
  | 90 => ⟨S4x1x1, .i32⟩
  | 91 => ⟨S_, .i32⟩
  | 92 => ⟨S1x2048x1, .i32⟩
  | 93 => ⟨S1x2048x1, .i1⟩
  | 94 => ⟨S_, .i32⟩
  | 95 => ⟨S1x2048x1, .i32⟩
  | 96 => ⟨S1x2048x1, .i32⟩
  | 97 => ⟨S1x2048x1, .i32⟩
  | 98 => ⟨S_, .i32⟩
  | 99 => ⟨S4x2048x8, .i32⟩
  | 100 => ⟨S4x2048x8, .i1⟩
  | 101 => ⟨S_, .i32⟩
  | 102 => ⟨S4x2048x8, .i32⟩
  | 103 => ⟨S4x2048x8, .i32⟩
  | 104 => ⟨S4x2048x8, .i32⟩
  | 105 => ⟨S4x2048x8, .i32⟩
  | 106 => ⟨S4x2048x8, .i32⟩
  | 107 => ⟨S4x2048x8x1, .i32⟩
  | 108 => ⟨S4x2048x8x1, .i32⟩
  | 109 => ⟨S4x2048x8x1, .i32⟩
  | 110 => ⟨S4x2048x8x3, .i32⟩
  | 111 => ⟨S4x2048x512, .f32⟩
  | 112 => ⟨S4x2048x512, .f32⟩
  | 113 => ⟨S4x2048x512, .f32⟩
  | 114 => ⟨S512x64, .f32⟩
  | 115 => ⟨S4x2048x512, .f32⟩
  | 116 => ⟨S_, .f32⟩
  | 117 => ⟨S4x2048, .f32⟩
  | 118 => ⟨S_, .f32⟩
  | 119 => ⟨S4x2048, .f32⟩
  | 120 => ⟨S4x2048, .f32⟩
  | 121 => ⟨S4x2048x1, .f32⟩
  | 122 => ⟨S4x2048x512, .f32⟩
  | 123 => ⟨S4x2048x512, .f32⟩
  | 124 => ⟨S4x2048x512, .f32⟩
  | 125 => ⟨S_, .f32⟩
  | 126 => ⟨S4x2048, .f32⟩
  | 127 => ⟨S4x2048x1, .f32⟩
  | _ => ⟨S4x2048x4096, .f32⟩

abbrev hbmTy0_2 (i : Nat) : BufTy := match i % 128 with
  | 0 => ⟨S4x2048x512, .f32⟩
  | 1 => ⟨S4x2048x512, .f32⟩
  | 2 => ⟨S4x2048x8, .f32⟩
  | 3 => ⟨S4x2048x8, .i32⟩
  | 4 => ⟨S4, .i32⟩
  | 5 => ⟨S4x1x1, .i32⟩
  | 6 => ⟨S2048, .i32⟩
  | 7 => ⟨S1x2048x1, .i32⟩
  | 8 => ⟨S_, .f32⟩
  | 9 => ⟨S4x2048x512, .f32⟩
  | 10 => ⟨S_, .i32⟩
  | 11 => ⟨S4x1x1, .i32⟩
  | 12 => ⟨S4x1x1, .i1⟩
  | 13 => ⟨S_, .i32⟩
  | 14 => ⟨S4x1x1, .i32⟩
  | 15 => ⟨S4x1x1, .i32⟩
  | 16 => ⟨S4x1x1, .i32⟩
  | 17 => ⟨S_, .i32⟩
  | 18 => ⟨S1x2048x1, .i32⟩
  | 19 => ⟨S1x2048x1, .i1⟩
  | 20 => ⟨S_, .i32⟩
  | 21 => ⟨S1x2048x1, .i32⟩
  | 22 => ⟨S1x2048x1, .i32⟩
  | 23 => ⟨S1x2048x1, .i32⟩
  | 24 => ⟨S_, .i32⟩
  | 25 => ⟨S4x2048x8, .i32⟩
  | 26 => ⟨S4x2048x8, .i1⟩
  | 27 => ⟨S_, .i32⟩
  | 28 => ⟨S4x2048x8, .i32⟩
  | 29 => ⟨S4x2048x8, .i32⟩
  | 30 => ⟨S4x2048x8, .i32⟩
  | 31 => ⟨S4x2048x8, .i32⟩
  | 32 => ⟨S4x2048x8, .i32⟩
  | 33 => ⟨S4x2048x8x1, .i32⟩
  | 34 => ⟨S4x2048x8x1, .i32⟩
  | 35 => ⟨S4x2048x8x1, .i32⟩
  | 36 => ⟨S4x2048x8x3, .i32⟩
  | 37 => ⟨S4x2048x512, .f32⟩
  | 38 => ⟨S4x2048x512, .f32⟩
  | 39 => ⟨S4x2048x512, .f32⟩
  | 40 => ⟨S512x64, .f32⟩
  | 41 => ⟨S4x2048x512, .f32⟩
  | 42 => ⟨S_, .f32⟩
  | 43 => ⟨S4x2048, .f32⟩
  | 44 => ⟨S_, .f32⟩
  | 45 => ⟨S4x2048, .f32⟩
  | 46 => ⟨S4x2048, .f32⟩
  | 47 => ⟨S4x2048x1, .f32⟩
  | 48 => ⟨S4x2048x512, .f32⟩
  | 49 => ⟨S4x2048x512, .f32⟩
  | 50 => ⟨S4x2048x512, .f32⟩
  | 51 => ⟨S_, .f32⟩
  | 52 => ⟨S4x2048, .f32⟩
  | 53 => ⟨S4x2048x1, .f32⟩
  | 54 => ⟨S4x2048x512, .f32⟩
  | 55 => ⟨S4x2048x512, .f32⟩
  | 56 => ⟨S4x2048x3, .f32⟩
  | 57 => ⟨S4x2048x3, .i32⟩
  | 58 => ⟨S4, .i32⟩
  | 59 => ⟨S4x1x1, .i32⟩
  | 60 => ⟨S2048, .i32⟩
  | 61 => ⟨S1x2048x1, .i32⟩
  | 62 => ⟨S_, .f32⟩
  | 63 => ⟨S4x2048x512, .f32⟩
  | 64 => ⟨S_, .i32⟩
  | 65 => ⟨S4x1x1, .i32⟩
  | 66 => ⟨S4x1x1, .i1⟩
  | 67 => ⟨S_, .i32⟩
  | 68 => ⟨S4x1x1, .i32⟩
  | 69 => ⟨S4x1x1, .i32⟩
  | 70 => ⟨S4x1x1, .i32⟩
  | 71 => ⟨S_, .i32⟩
  | 72 => ⟨S1x2048x1, .i32⟩
  | 73 => ⟨S1x2048x1, .i1⟩
  | 74 => ⟨S_, .i32⟩
  | 75 => ⟨S1x2048x1, .i32⟩
  | 76 => ⟨S1x2048x1, .i32⟩
  | 77 => ⟨S1x2048x1, .i32⟩
  | 78 => ⟨S_, .i32⟩
  | 79 => ⟨S4x2048x3, .i32⟩
  | 80 => ⟨S4x2048x3, .i1⟩
  | 81 => ⟨S_, .i32⟩
  | 82 => ⟨S4x2048x3, .i32⟩
  | 83 => ⟨S4x2048x3, .i32⟩
  | 84 => ⟨S4x2048x3, .i32⟩
  | 85 => ⟨S4x2048x3, .i32⟩
  | 86 => ⟨S4x2048x3, .i32⟩
  | 87 => ⟨S4x2048x3x1, .i32⟩
  | 88 => ⟨S4x2048x3x1, .i32⟩
  | 89 => ⟨S4x2048x3x1, .i32⟩
  | 90 => ⟨S4x2048x3x3, .i32⟩
  | 91 => ⟨S4x2048x512, .f32⟩
  | 92 => ⟨S4x2048x512, .f32⟩
  | 93 => ⟨S4x2048x512, .f32⟩
  | 94 => ⟨S4x2048x3072, .f32⟩
  | _ => ⟨S4x2048x4096, .f32⟩

abbrev hbmTy (i : Nat) : BufTy := match i / 128 with
  | 0 => hbmTy0_0 i
  | 1 => hbmTy0_1 i
  | 2 => hbmTy0_2 i
  | _ => ⟨S4x2048x4096, .f32⟩

abbrev bufTy : (tb : Table) → Fin (tcTables nBuf tb) → BufTy
  | .hbm, ⟨i, _⟩ => hbmTy i
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_cst : Ref sig .tc := ⟨.hbm, 17, rfl⟩
abbrev main_call0_v1 : Ref sig .tc := ⟨.hbm, 18, rfl⟩
abbrev main_call0_v2 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_values : Ref sig .tc := ⟨.hbm, 42, rfl⟩
abbrev main_indices : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_c : Ref sig .tc := ⟨.hbm, 50, rfl⟩
abbrev main_v34 : Ref sig .tc := ⟨.hbm, 51, rfl⟩
abbrev main_v35 : Ref sig .tc := ⟨.hbm, 52, rfl⟩
abbrev main_c_4 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_5 : Ref sig .tc := ⟨.hbm, 57, rfl⟩
abbrev main_v39 : Ref sig .tc := ⟨.hbm, 58, rfl⟩
abbrev main_v40 : Ref sig .tc := ⟨.hbm, 59, rfl⟩
abbrev main_c_6 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_7 : Ref sig .tc := ⟨.hbm, 64, rfl⟩
abbrev main_v44 : Ref sig .tc := ⟨.hbm, 65, rfl⟩
abbrev main_v45 : Ref sig .tc := ⟨.hbm, 66, rfl⟩
abbrev main_c_8 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_9 : Ref sig .tc := ⟨.hbm, 82, rfl⟩
abbrev main_v60 : Ref sig .tc := ⟨.hbm, 83, rfl⟩
abbrev main_cst_10 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_11 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_values_12 : Ref sig .tc := ⟨.hbm, 96, rfl⟩
abbrev main_indices_13 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_14 : Ref sig .tc := ⟨.hbm, 102, rfl⟩
abbrev main_v75 : Ref sig .tc := ⟨.hbm, 103, rfl⟩
abbrev main_c_15 : Ref sig .tc := ⟨.hbm, 104, rfl⟩
abbrev main_v76 : Ref sig .tc := ⟨.hbm, 105, rfl⟩
abbrev main_v77 : Ref sig .tc := ⟨.hbm, 106, rfl⟩
abbrev main_c_16 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_c_17 : Ref sig .tc := ⟨.hbm, 111, rfl⟩
abbrev main_v81 : Ref sig .tc := ⟨.hbm, 112, rfl⟩
abbrev main_v82 : Ref sig .tc := ⟨.hbm, 113, rfl⟩
abbrev main_c_18 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_c_19 : Ref sig .tc := ⟨.hbm, 118, rfl⟩
abbrev main_v86 : Ref sig .tc := ⟨.hbm, 119, rfl⟩
abbrev main_v87 : Ref sig .tc := ⟨.hbm, 120, rfl⟩
abbrev main_c_20 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_cst_21 : Ref sig .tc := ⟨.hbm, 136, rfl⟩
abbrev main_v102 : Ref sig .tc := ⟨.hbm, 137, rfl⟩
abbrev main_cst_22 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_cst_23 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_values_24 : Ref sig .tc := ⟨.hbm, 150, rfl⟩
abbrev main_indices_25 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_cst_26 : Ref sig .tc := ⟨.hbm, 156, rfl⟩
abbrev main_v117 : Ref sig .tc := ⟨.hbm, 157, rfl⟩
abbrev main_c_27 : Ref sig .tc := ⟨.hbm, 158, rfl⟩
abbrev main_v118 : Ref sig .tc := ⟨.hbm, 159, rfl⟩
abbrev main_v119 : Ref sig .tc := ⟨.hbm, 160, rfl⟩
abbrev main_c_28 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_c_29 : Ref sig .tc := ⟨.hbm, 165, rfl⟩
abbrev main_v123 : Ref sig .tc := ⟨.hbm, 166, rfl⟩
abbrev main_v124 : Ref sig .tc := ⟨.hbm, 167, rfl⟩
abbrev main_c_30 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_c_31 : Ref sig .tc := ⟨.hbm, 172, rfl⟩
abbrev main_v128 : Ref sig .tc := ⟨.hbm, 173, rfl⟩
abbrev main_v129 : Ref sig .tc := ⟨.hbm, 174, rfl⟩
abbrev main_c_32 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_cst_33 : Ref sig .tc := ⟨.hbm, 190, rfl⟩
abbrev main_v144 : Ref sig .tc := ⟨.hbm, 191, rfl⟩
abbrev main_cst_34 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_cst_35 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_values_36 : Ref sig .tc := ⟨.hbm, 204, rfl⟩
abbrev main_indices_37 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_cst_38 : Ref sig .tc := ⟨.hbm, 210, rfl⟩
abbrev main_v159 : Ref sig .tc := ⟨.hbm, 211, rfl⟩
abbrev main_c_39 : Ref sig .tc := ⟨.hbm, 212, rfl⟩
abbrev main_v160 : Ref sig .tc := ⟨.hbm, 213, rfl⟩
abbrev main_v161 : Ref sig .tc := ⟨.hbm, 214, rfl⟩
abbrev main_c_40 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_c_41 : Ref sig .tc := ⟨.hbm, 219, rfl⟩
abbrev main_v165 : Ref sig .tc := ⟨.hbm, 220, rfl⟩
abbrev main_v166 : Ref sig .tc := ⟨.hbm, 221, rfl⟩
abbrev main_c_42 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_c_43 : Ref sig .tc := ⟨.hbm, 226, rfl⟩
abbrev main_v170 : Ref sig .tc := ⟨.hbm, 227, rfl⟩
abbrev main_v171 : Ref sig .tc := ⟨.hbm, 228, rfl⟩
abbrev main_c_44 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_cst_45 : Ref sig .tc := ⟨.hbm, 244, rfl⟩
abbrev main_v186 : Ref sig .tc := ⟨.hbm, 245, rfl⟩
abbrev main_cst_46 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_cst_47 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_values_48 : Ref sig .tc := ⟨.hbm, 258, rfl⟩
abbrev main_indices_49 : Ref sig .tc := ⟨.hbm, 259, rfl⟩
abbrev main_v197 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_cst_50 : Ref sig .tc := ⟨.hbm, 264, rfl⟩
abbrev main_v201 : Ref sig .tc := ⟨.hbm, 265, rfl⟩
abbrev main_c_51 : Ref sig .tc := ⟨.hbm, 266, rfl⟩
abbrev main_v202 : Ref sig .tc := ⟨.hbm, 267, rfl⟩
abbrev main_v203 : Ref sig .tc := ⟨.hbm, 268, rfl⟩
abbrev main_c_52 : Ref sig .tc := ⟨.hbm, 269, rfl⟩
abbrev main_v204 : Ref sig .tc := ⟨.hbm, 270, rfl⟩
abbrev main_v205 : Ref sig .tc := ⟨.hbm, 271, rfl⟩
abbrev main_v206 : Ref sig .tc := ⟨.hbm, 272, rfl⟩
abbrev main_c_53 : Ref sig .tc := ⟨.hbm, 273, rfl⟩
abbrev main_v207 : Ref sig .tc := ⟨.hbm, 274, rfl⟩
abbrev main_v208 : Ref sig .tc := ⟨.hbm, 275, rfl⟩
abbrev main_c_54 : Ref sig .tc := ⟨.hbm, 276, rfl⟩
abbrev main_v209 : Ref sig .tc := ⟨.hbm, 277, rfl⟩
abbrev main_v210 : Ref sig .tc := ⟨.hbm, 278, rfl⟩
abbrev main_v211 : Ref sig .tc := ⟨.hbm, 279, rfl⟩
abbrev main_c_55 : Ref sig .tc := ⟨.hbm, 280, rfl⟩
abbrev main_v212 : Ref sig .tc := ⟨.hbm, 281, rfl⟩
abbrev main_v213 : Ref sig .tc := ⟨.hbm, 282, rfl⟩
abbrev main_c_56 : Ref sig .tc := ⟨.hbm, 283, rfl⟩
abbrev main_v214 : Ref sig .tc := ⟨.hbm, 284, rfl⟩
abbrev main_v215 : Ref sig .tc := ⟨.hbm, 285, rfl⟩
abbrev main_v216 : Ref sig .tc := ⟨.hbm, 286, rfl⟩
abbrev main_v217 : Ref sig .tc := ⟨.hbm, 287, rfl⟩
abbrev main_v218 : Ref sig .tc := ⟨.hbm, 288, rfl⟩
abbrev main_v219 : Ref sig .tc := ⟨.hbm, 289, rfl⟩
abbrev main_v220 : Ref sig .tc := ⟨.hbm, 290, rfl⟩
abbrev main_v221 : Ref sig .tc := ⟨.hbm, 291, rfl⟩
abbrev main_v222 : Ref sig .tc := ⟨.hbm, 292, rfl⟩
abbrev main_v223 : Ref sig .tc := ⟨.hbm, 293, rfl⟩
abbrev main_v224 : Ref sig .tc := ⟨.hbm, 294, rfl⟩
abbrev main_v225 : Ref sig .tc := ⟨.hbm, 295, rfl⟩
abbrev main_v226 : Ref sig .tc := ⟨.hbm, 296, rfl⟩
abbrev main_v227 : Ref sig .tc := ⟨.hbm, 297, rfl⟩
abbrev main_cst_57 : Ref sig .tc := ⟨.hbm, 298, rfl⟩
abbrev main_v228 : Ref sig .tc := ⟨.hbm, 299, rfl⟩
abbrev main_cst_58 : Ref sig .tc := ⟨.hbm, 300, rfl⟩
abbrev main_v229 : Ref sig .tc := ⟨.hbm, 301, rfl⟩
abbrev main_v230 : Ref sig .tc := ⟨.hbm, 302, rfl⟩
abbrev main_v231 : Ref sig .tc := ⟨.hbm, 303, rfl⟩
abbrev main_v232 : Ref sig .tc := ⟨.hbm, 304, rfl⟩
abbrev main_v233 : Ref sig .tc := ⟨.hbm, 305, rfl⟩
abbrev main_v234 : Ref sig .tc := ⟨.hbm, 306, rfl⟩
abbrev main_cst_59 : Ref sig .tc := ⟨.hbm, 307, rfl⟩
abbrev main_v235 : Ref sig .tc := ⟨.hbm, 308, rfl⟩
abbrev main_v236 : Ref sig .tc := ⟨.hbm, 309, rfl⟩
abbrev main_v237 : Ref sig .tc := ⟨.hbm, 310, rfl⟩
abbrev main_v238 : Ref sig .tc := ⟨.hbm, 311, rfl⟩
abbrev main_values_60 : Ref sig .tc := ⟨.hbm, 312, rfl⟩
abbrev main_indices_61 : Ref sig .tc := ⟨.hbm, 313, rfl⟩
abbrev main_v239 : Ref sig .tc := ⟨.hbm, 314, rfl⟩
abbrev main_v240 : Ref sig .tc := ⟨.hbm, 315, rfl⟩
abbrev main_v241 : Ref sig .tc := ⟨.hbm, 316, rfl⟩
abbrev main_v242 : Ref sig .tc := ⟨.hbm, 317, rfl⟩
abbrev main_cst_62 : Ref sig .tc := ⟨.hbm, 318, rfl⟩
abbrev main_v243 : Ref sig .tc := ⟨.hbm, 319, rfl⟩
abbrev main_c_63 : Ref sig .tc := ⟨.hbm, 320, rfl⟩
abbrev main_v244 : Ref sig .tc := ⟨.hbm, 321, rfl⟩
abbrev main_v245 : Ref sig .tc := ⟨.hbm, 322, rfl⟩
abbrev main_c_64 : Ref sig .tc := ⟨.hbm, 323, rfl⟩
abbrev main_v246 : Ref sig .tc := ⟨.hbm, 324, rfl⟩
abbrev main_v247 : Ref sig .tc := ⟨.hbm, 325, rfl⟩
abbrev main_v248 : Ref sig .tc := ⟨.hbm, 326, rfl⟩
abbrev main_c_65 : Ref sig .tc := ⟨.hbm, 327, rfl⟩
abbrev main_v249 : Ref sig .tc := ⟨.hbm, 328, rfl⟩
abbrev main_v250 : Ref sig .tc := ⟨.hbm, 329, rfl⟩
abbrev main_c_66 : Ref sig .tc := ⟨.hbm, 330, rfl⟩
abbrev main_v251 : Ref sig .tc := ⟨.hbm, 331, rfl⟩
abbrev main_v252 : Ref sig .tc := ⟨.hbm, 332, rfl⟩
abbrev main_v253 : Ref sig .tc := ⟨.hbm, 333, rfl⟩
abbrev main_c_67 : Ref sig .tc := ⟨.hbm, 334, rfl⟩
abbrev main_v254 : Ref sig .tc := ⟨.hbm, 335, rfl⟩
abbrev main_v255 : Ref sig .tc := ⟨.hbm, 336, rfl⟩
abbrev main_c_68 : Ref sig .tc := ⟨.hbm, 337, rfl⟩
abbrev main_v256 : Ref sig .tc := ⟨.hbm, 338, rfl⟩
abbrev main_v257 : Ref sig .tc := ⟨.hbm, 339, rfl⟩
abbrev main_v258 : Ref sig .tc := ⟨.hbm, 340, rfl⟩
abbrev main_v259 : Ref sig .tc := ⟨.hbm, 341, rfl⟩
abbrev main_v260 : Ref sig .tc := ⟨.hbm, 342, rfl⟩
abbrev main_v261 : Ref sig .tc := ⟨.hbm, 343, rfl⟩
abbrev main_v262 : Ref sig .tc := ⟨.hbm, 344, rfl⟩
abbrev main_v263 : Ref sig .tc := ⟨.hbm, 345, rfl⟩
abbrev main_v264 : Ref sig .tc := ⟨.hbm, 346, rfl⟩
abbrev main_v265 : Ref sig .tc := ⟨.hbm, 347, rfl⟩
abbrev main_v266 : Ref sig .tc := ⟨.hbm, 348, rfl⟩
abbrev main_v267 : Ref sig .tc := ⟨.hbm, 349, rfl⟩
abbrev main_v268 : Ref sig .tc := ⟨.hbm, 350, rfl⟩

abbrev nD : Nat := 1
abbrev τ : Topo := Topo.v7x

variable {F : FTy → Type} [FloatOps F]
-- ==== Proof.Row.Order.lean ====
/- Rows of extended reals: the greatest entry, the rounds that mask it, the threshold after some rounds, and
   the order a stable sort "greater first" puts the positions in. Where the k + 1 greatest entries strictly
   decrease, the threshold after k − 1 rounds selects exactly the first k positions of that order. -/
module

public import Idealize.ShloMosaic.Lib.SortFacts
public import Idealize.ShloMosaic.PureOps.Ideal.Laws

@[expose] public section

noncomputable section

namespace Cert.Router

open Idealize.ShloMosaic

variable {n : ℕ}

/-! ## The greatest entry -/

/-- The greatest entry of a row. -/
def rowMax (l : Fin n → EReal) : EReal := Finset.univ.fold max ⊥ l

/-- Every entry is at most the greatest. -/
theorem le_rowMax (l : Fin n → EReal) (j : Fin n) : l j ≤ rowMax l :=
  (Finset.le_fold_max (l j)).2 (Or.inr ⟨j, Finset.mem_univ j, le_rfl⟩)

/-- A bound of every entry bounds the greatest. -/
theorem rowMax_le {l : Fin n → EReal} {a : EReal} (h : ∀ j, l j ≤ a) : rowMax l ≤ a :=
  (Finset.fold_max_le a).2 ⟨bot_le, fun j _ => h j⟩

/-- An entry that bounds the others is the greatest. -/
theorem rowMax_eq {l : Fin n → EReal} (i : Fin n) (h : ∀ j, l j ≤ l i) : rowMax l = l i :=
  le_antisymm (rowMax_le h) (le_rowMax l i)

/-! ## Rounds of masking -/

/-- One round: every entry that is at least the row's greatest becomes −∞. -/
def mask (v : Fin n → EReal) : Fin n → EReal := fun j => if rowMax v ≤ v j then ⊥ else v j

/-- The row after `r` rounds. -/
def masked (l : Fin n → EReal) : ℕ → Fin n → EReal
  | 0 => l
  | r + 1 => mask (masked l r)

/-- The greatest entry left after `r` rounds. -/
def thr (l : Fin n → EReal) (r : ℕ) : EReal := rowMax (masked l r)

/-! ## The order of the positions -/

/-- The positions of a row in the order of a stable sort that puts the greater entry first. -/
def order (l : Fin n → EReal) : Fin n → Fin n :=
  sortedFrom fun a b => Ideal.cmp .ogt (l a) (l b) == 1#1

/-- The comparison bit of "greater" is set exactly when the first operand is greater. -/
theorem cmp_ogt_beq (a b : EReal) : (Ideal.cmp .ogt a b == 1#1) = decide (b < a) := by
  unfold Ideal.cmp
  by_cases h : b < a <;> simp [h]

/-- Along the order the entries do not increase. -/
theorem order_anti (l : Fin n → EReal) {i j : Fin n} (h : i ≤ j) : l (order l j) ≤ l (order l i) := by
  rcases h.eq_or_lt with rfl | h
  · exact le_rfl
  · have := sortedFrom_noInversion (fun a b => Ideal.cmp .ogt (l a) (l b) == 1#1)
      (fun a b => Ideal.cmp .ogt (l a) (l b) == 1#1) (fun a b => ?_) (fun a b => id) (fun a b c => ?_) i j h
    · simp only [cmp_ogt_beq, decide_eq_false_iff_not, not_lt] at this
      unfold order
      simp only [cmp_ogt_beq]
      exact this
    · simp only [cmp_ogt_beq, decide_eq_true_eq, decide_eq_false_iff_not, not_lt]
      exact le_of_lt
    · simp only [cmp_ogt_beq, decide_eq_false_iff_not, not_lt]
      exact fun h₁ h₂ => h₁.trans h₂

/-- Every position occurs in the order. -/
theorem exists_order (l : Fin n → EReal) (j : Fin n) : ∃ i, order l i = j := sortedFrom_surjective _ j

/-- No position occurs twice. -/
theorem order_inj (l : Fin n → EReal) : Function.Injective (order l) := sortedFrom_injective _

/-- Two rows whose entries compare alike have the same order. -/
theorem order_congr {l l' : Fin n → EReal} (h : ∀ a b, l a < l b ↔ l' a < l' b) : order l = order l' := by
  unfold order
  congr 1
  funext a b
  simp only [cmp_ogt_beq, h]

/-- The `k + 1` greatest entries of a row strictly decrease, and each is below +∞. -/
structure Strict (k : ℕ) (hk : k < n) (l : Fin n → EReal) : Prop where
  dec : ∀ r (h : r < k), l (order l ⟨r + 1, by omega⟩) < l (order l ⟨r, by omega⟩)
  lt_top : ∀ r (h : r ≤ k), l (order l ⟨r, by omega⟩) < ⊤

variable {k : ℕ} {hk : k < n} {l : Fin n → EReal}

/-- Of the first `k` entries in order, each is strictly greater than every later one. -/
theorem Strict.lt (hs : Strict k hk l) {r : ℕ} (hr : r < k) {j : Fin n} (hj : r < j.val) :
    l (order l j) < l (order l ⟨r, by omega⟩) :=
  (order_anti l (i := ⟨r + 1, by omega⟩) (j := j) (by simpa [Fin.le_def] using hj)).trans_lt (hs.dec r hr)

/-- An entry compared with the `r`-th: it is at least that one exactly when its place is not later. -/
theorem Strict.le_iff (hs : Strict k hk l) {r : ℕ} (hr : r < k) (i : Fin n) :
    l (order l ⟨r, by omega⟩) ≤ l (order l i) ↔ i.val ≤ r := by
  refine ⟨fun h => ?_, fun h => order_anti l (by simpa [Fin.le_def] using h)⟩
  by_contra hc
  exact absurd (hs.lt hr (j := i) (by omega)) (not_lt.2 h)

/-- One of the first `k` entries in order is above −∞. -/
theorem Strict.bot_lt (hs : Strict k hk l) {r : ℕ} (hr : r < k) : ⊥ < l (order l ⟨r, by omega⟩) :=
  bot_le.trans_lt (hs.dec r hr)

/-- The row after `r ≤ k` rounds: the first `r` positions in order are masked, the others as they were. -/
theorem Strict.masked_eq (hs : Strict k hk l) : ∀ {r : ℕ}, r ≤ k → ∀ i : Fin n,
    masked l r (order l i) = if i.val < r then ⊥ else l (order l i)
  | 0, _, i => by simp [masked]
  | r + 1, hr, i => by
    have ih := hs.masked_eq (r := r) (by omega)
    have hm : rowMax (masked l r) = l (order l ⟨r, by omega⟩) := by
      have e := ih ⟨r, by omega⟩
      simp only [lt_irrefl, if_false] at e
      rw [← e]
      refine rowMax_eq _ fun j => ?_
      obtain ⟨i, rfl⟩ := exists_order l j
      rw [ih i, e]
      split
      · exact bot_le
      · exact order_anti l (by simp only [Fin.le_def]; omega)
    show mask (masked l r) (order l i) = _
    unfold mask
    rw [hm, ih i]
    by_cases hi : i.val < r
    · rw [if_pos hi, ite_self, if_pos (by omega)]
    · rw [if_neg hi]
      simp only [hs.le_iff (r := r) (by omega) i]
      by_cases hi' : i.val = r
      · rw [if_pos (by omega), if_pos (by omega)]
      · rw [if_neg (by omega), if_neg (by omega)]

/-- The threshold after `r < k` rounds is the `r`-th entry in order. -/
theorem Strict.thr_eq (hs : Strict k hk l) {r : ℕ} (hr : r < k) : thr l r = l (order l ⟨r, by omega⟩) := by
  have ih := hs.masked_eq (r := r) (by omega)
  have e := ih ⟨r, by omega⟩
  simp only [lt_irrefl, if_false] at e
  unfold thr
  rw [← e]
  refine rowMax_eq _ fun j => ?_
  obtain ⟨i, rfl⟩ := exists_order l j
  rw [ih i, e]
  split
  · exact bot_le
  · exact order_anti l (by simp only [Fin.le_def]; omega)

/-- The threshold after `r < k` rounds selects the positions `0, …, r` of the order. -/
theorem Strict.thr_le_iff (hs : Strict k hk l) {r : ℕ} (hr : r < k) (i : Fin n) :
    thr l r ≤ l (order l i) ↔ i.val ≤ r := by
  rw [hs.thr_eq hr, hs.le_iff hr]

/-- The greatest entry is the first in order. -/
theorem rowMax_order (l : Fin n → EReal) (h : 0 < n) : rowMax l = l (order l ⟨0, h⟩) :=
  rowMax_eq _ fun j => by
    obtain ⟨i, rfl⟩ := exists_order l j
    exact order_anti l (by simp [Fin.le_def])

end Cert.Router

end
-- ==== Proof.Row.Softmax.lean ====
/- The softmax of a row whose greatest entry is a real: every weight is a real in [0, 1], the total is a real at
   least 1, the weights compare as the entries do; and the two forms of the routed row — the threshold form and
   the form that sets the first k positions and adds the weights back — agree. -/
module

public import proofs.«01_k».proof.Proof.Row.Order

@[expose] public section

noncomputable section

namespace Cert.Router

open Idealize.ShloMosaic

variable {n : ℕ}

/-- The unnormalised softmax weight: the exponential of the entry less the row's greatest. -/
def ex (l : Fin n → EReal) (j : Fin n) : EReal := Ideal.exp (l j - rowMax l)

/-- The total of the weights. -/
def tot (l : Fin n → EReal) : EReal := ∑ j, ex l j

/-- The softmax. -/
def pref (l : Fin n → EReal) (j : Fin n) : EReal := Ideal.div (ex l j) (tot l)

/-- The routed row by threshold: after `r` rounds of masking the entries at least the greatest one left keep
    their softmax, the others become 0. -/
def pool (r : ℕ) (l : Fin n → EReal) (j : Fin n) : EReal :=
  if thr l r ≤ l j then ex l j * Ideal.div 1 (tot l) else 0

/-- The routed row by sorting: the first `k` positions of the softmax's order keep their softmax, the others
    become 0, and then the softmax is taken away and added back. -/
def routed (k : ℕ) (hk : k < n) (l : Fin n → EReal) (j : Fin n) : EReal :=
  (if ∃ r : Fin k, order (pref l) (r.castLE hk.le) = j then pref l j else 0) - pref l j + pref l j

section

variable {k : ℕ} {hk : k < n} {l : Fin n → EReal}

/-- With a real greatest entry, each weight is a real in [0, 1]: 0 at an entry −∞, and otherwise the
    exponential of a real. -/
theorem ex_real {m : ℝ} (hm : rowMax l = m) (j : Fin n) : ∃ w : ℝ, 0 ≤ w ∧ ex l j = w := by
  unfold ex
  rw [hm]
  have hle := le_rowMax l j
  rw [hm] at hle
  induction h : l j using EReal.rec with
  | bot => exact ⟨0, le_rfl, by rw [EReal.bot_sub]; rfl⟩
  | coe x => exact ⟨Real.exp (x - m), (Real.exp_pos _).le, by rw [← EReal.coe_sub]; rfl⟩
  | top => rw [h] at hle; exact absurd (top_le_iff.1 hle) (EReal.coe_ne_top m)

/-- The weights compare as the entries do. -/
theorem ex_lt_iff {m : ℝ} (hm : rowMax l = m) (a b : Fin n) : ex l a < ex l b ↔ l a < l b := by
  have ha := le_rowMax l a
  have hb := le_rowMax l b
  unfold ex
  rw [hm] at ha hb ⊢
  induction h : l a using EReal.rec with
  | top => rw [h] at ha; exact absurd (top_le_iff.1 ha) (EReal.coe_ne_top m)
  | bot =>
    induction h' : l b using EReal.rec with
    | top => rw [h'] at hb; exact absurd (top_le_iff.1 hb) (EReal.coe_ne_top m)
    | bot => simp
    | coe y =>
      rw [EReal.bot_sub, ← EReal.coe_sub]
      refine iff_of_true ?_ (EReal.bot_lt_coe y)
      show (0 : EReal) < ((Real.exp (y - m) : ℝ) : EReal)
      exact EReal.coe_pos.2 (Real.exp_pos _)
  | coe x =>
    induction h' : l b using EReal.rec with
    | top => rw [h'] at hb; exact absurd (top_le_iff.1 hb) (EReal.coe_ne_top m)
    | bot =>
      rw [EReal.bot_sub, ← EReal.coe_sub]
      refine iff_of_false ?_ (by simp)
      show ¬ ((Real.exp (x - m) : ℝ) : EReal) < ((0 : ℝ) : EReal)
      rw [EReal.coe_lt_coe_iff, not_lt]
      exact (Real.exp_pos _).le
    | coe y =>
      rw [← EReal.coe_sub, ← EReal.coe_sub]
      show ((Real.exp (x - m) : ℝ) : EReal) < ((Real.exp (y - m) : ℝ) : EReal) ↔ _
      rw [EReal.coe_lt_coe_iff, EReal.coe_lt_coe_iff, Real.exp_lt_exp]
      exact sub_lt_sub_iff_right m

/-- A sum of reals, as an extended real, is the sum of them as extended reals. -/
theorem coe_sum {ι : Type} (s : Finset ι) (w : ι → ℝ) : ((∑ j ∈ s, w j : ℝ) : EReal) = ∑ j ∈ s, (w j : EReal) := by
  classical
  induction s using Finset.induction_on with
  | empty => simp
  | insert a s ha ih => rw [Finset.sum_insert ha, Finset.sum_insert ha, EReal.coe_add, ih]

/-- The total of the weights is a positive real. -/
theorem tot_real {m : ℝ} (hm : rowMax l = m) (hn : 0 < n) : ∃ z : ℝ, 0 < z ∧ tot l = z := by
  choose w hw0 hw using ex_real (l := l) hm
  refine ⟨∑ j, w j, ?_, ?_⟩
  · refine Finset.sum_pos' (fun j _ => hw0 j) ⟨order l ⟨0, hn⟩, Finset.mem_univ _, ?_⟩
    have e := hw (order l ⟨0, hn⟩)
    have h0 := rowMax_order l hn
    unfold ex at e
    rw [← h0, hm, ← EReal.coe_sub, sub_self] at e
    have e' : ((Real.exp 0 : ℝ) : EReal) = (w (order l ⟨0, hn⟩) : EReal) := e
    rw [← EReal.coe_eq_coe_iff.1 e']
    exact Real.exp_pos 0
  · unfold tot
    rw [coe_sum]
    exact Finset.sum_congr rfl fun j _ => hw j

/-- Dividing a real weight by a positive real total. -/
theorem div_real (w z : ℝ) (hz : 0 < z) : Ideal.div (w : EReal) (z : EReal) = ((w / z : ℝ) : EReal) := by
  unfold Ideal.div
  rw [if_neg (by exact_mod_cast hz.ne'), div_eq_mul_inv, EReal.coe_mul, EReal.coe_inv]

/-- Where the `k + 1` greatest entries strictly decrease below +∞ and `k` is positive, the greatest is a real. -/
theorem Strict.rowMax_real (hs : Strict k hk l) (h0 : 0 < k) : ∃ m : ℝ, rowMax l = m := by
  rw [rowMax_order l (by omega)]
  have h1 := hs.bot_lt h0
  have h2 := hs.lt_top 0 (by omega)
  exact ⟨_, (EReal.coe_toReal h2.ne h1.ne').symm⟩

/-- There the softmax orders the positions as the entries do. -/
theorem Strict.order_pref (hs : Strict k hk l) (h0 : 0 < k) : order (pref l) = order l := by
  obtain ⟨m, hm⟩ := hs.rowMax_real h0
  obtain ⟨z, hz, hz'⟩ := tot_real hm (by omega)
  choose w _ hw using ex_real (l := l) hm
  refine order_congr fun a b => ?_
  rw [← ex_lt_iff hm]
  unfold pref
  rw [hz', hw a, hw b, div_real _ _ hz, div_real _ _ hz, EReal.coe_lt_coe_iff, EReal.coe_lt_coe_iff]
  exact div_lt_div_iff_of_pos_right hz

/-- There the two forms of the routed row agree. -/
theorem Strict.routed_eq (hs : Strict k hk l) {r : ℕ} (hr : r + 1 = k) (j : Fin n) :
    routed k hk l j = pool r l j := by
  have h0 : 0 < k := by omega
  obtain ⟨m, hm⟩ := hs.rowMax_real h0
  obtain ⟨z, hz, hz'⟩ := tot_real hm (by omega)
  obtain ⟨w, _, hw⟩ := ex_real (l := l) hm j
  have hp : pref l j = ((w / z : ℝ) : EReal) := by unfold pref; rw [hz', hw, div_real _ _ hz]
  have hsel : (∃ r' : Fin k, order (pref l) (r'.castLE hk.le) = j) ↔ thr l r ≤ l j := by
    rw [hs.order_pref h0]
    obtain ⟨i, rfl⟩ := exists_order l j
    rw [hs.thr_le_iff (by omega) i]
    constructor
    · rintro ⟨r', e⟩
      have := order_inj l e
      rw [← this]
      have := r'.isLt
      simp only [Fin.val_castLE]
      omega
    · intro h
      exact ⟨⟨i.val, by omega⟩, rfl⟩
  unfold routed pool
  simp only [hsel, hp, hw, hz']
  split
  · rw [← EReal.coe_one, div_real _ _ hz, ← EReal.coe_mul, ← EReal.coe_sub, ← EReal.coe_add]
    congr 1
    ring
  · rw [← EReal.coe_zero, ← EReal.coe_sub, ← EReal.coe_add]
    congr 1
    ring

end

end Cert.Router

end
-- ==== Proof.Row.Literals.lean ====
/- The float literals of the two programs, at the ideal interpretation. -/
module

public import Idealize.ShloMosaic.PureOps.Ideal.Laws

@[expose] public section

namespace Cert.Router

open Idealize.ShloMosaic

/-- The word 0xFF800000 is −∞. -/
theorem lit_bot : (FloatOps.ofBits .f32 0xFF800000#32 : Ideal .f32) = (⊥ : EReal) := by
  show Ideal.ofBits .f32 0xFF800000#32 = _
  simp [Ideal.ofBits, Ideal.ieee, -EReal.coe_mul]

/-- The word 0x7F800000 is +∞. -/
theorem lit_top : (FloatOps.ofBits .f32 0x7F800000#32 : Ideal .f32) = (⊤ : EReal) := by
  show Ideal.ofBits .f32 0x7F800000#32 = _
  simp [Ideal.ofBits, Ideal.ieee, -EReal.coe_mul]

/-- The word 0 is 0. -/
theorem lit_zero : (FloatOps.ofBits .f32 0x00000000#32 : Ideal .f32) = (0 : EReal) := by
  show Ideal.ofBits .f32 0x00000000#32 = _
  simp [Ideal.ofBits, Ideal.ieee, -EReal.coe_mul]

/-- The word 0x3F800000 is 1. -/
theorem lit_one : (FloatOps.ofBits .f32 0x3F800000#32 : Ideal .f32) = (1 : EReal) := by
  show Ideal.ofBits .f32 0x3F800000#32 = _
  simp [Ideal.ofBits, Ideal.ieee, -EReal.coe_mul]
  norm_num

/-- The word 0x2B8CBCCC, about 1e-12, is positive. -/
theorem lit_eps_pos : (0 : EReal) < (FloatOps.ofBits .f32 0x2B8CBCCC#32 : Ideal .f32) := by
  show (0 : EReal) < Ideal.ofBits .f32 0x2B8CBCCC#32
  simp [Ideal.ofBits, Ideal.ieee, -EReal.coe_mul]
  try norm_num

/-- The scalar constant of the word 0xFF800000 is −∞. -/
theorem scalar_bot : (Scalar.ofBits .f32 0xFF800000#32 : Ideal .f32) = (⊥ : EReal) := lit_bot

/-- The scalar constant of the word 0 is 0. -/
theorem scalar_zero : (Scalar.ofBits .f32 0x00000000#32 : Ideal .f32) = (0 : EReal) := lit_zero

/-- The scalar constant of the word 0x3F800000 is 1. -/
theorem scalar_one : (Scalar.ofBits .f32 0x3F800000#32 : Ideal .f32) = (1 : EReal) := lit_one

end Cert.Router
-- ==== Proof.Kernel.Pool.lean ====
/- One pool of the kernel's body as a function of its logits — the rounds of masking, the threshold, the
   exponentials and their total, and the select —, and its value at an entry: the routed row by threshold. -/
module

public import proofs.«01_k».proof.Proof.Row.Softmax
public import proofs.«01_k».proof.Proof.Row.Literals
public import proofs.«01_k».proof.Proof.Gen.KernelIdeal.Frame
public import Idealize.ShloMosaic.Lib.ValueLayout
public import Idealize.ShloMosaic.Lib.ValueLayoutCasts
public import Idealize.ShloMosaic.Lib.ValueIdx

@[expose] public section

noncomputable section

namespace Cert.KernelIdeal.Router

open Idealize.ShloMosaic Idealize.ShloMosaic.ValueIdx Cert.KernelIdeal Cert.KernelIdeal.Gen Cert.Router

/-! ## The vector forms -/

/-- Each row's greatest entry, as a column. -/
def top (v : FVec Ideal S512x512 .f32) : FVec Ideal S512x1 .f32 :=
  shapeCast S512x1 (multiReduction .maximumf [1] S512 v 0xFF800000#32 reduces_S512x512_S512 (.inl rfl) rfl) shapeCasts_S512_S512x1

/-- Each row's sum, as a column. -/
def rowSum (v : FVec Ideal S512x512 .f32) : FVec Ideal S512x1 .f32 :=
  shapeCast S512x1 (multiReduction .add [1] S512 v 0x00000000#32 reduces_S512x512_S512 (.inl rfl) rfl) shapeCasts_S512_S512x1

/-- A column along every row. -/
def along (c : FVec Ideal S512x1 .f32) : FVec Ideal S512x512 .f32 := broadcastTo S512x512 c broadcasts_S512x1_S512x512

/-- One round of masking, on every row. -/
def round (v : FVec Ideal S512x512 .f32) : FVec Ideal S512x512 .f32 :=
  select (cmpf .oge v (along (top v))) (broadcast S512x512 (Scalar.ofBits .f32 0xFF800000#32)) v

/-- Some rounds of masking. -/
def rounds : ℕ → FVec Ideal S512x512 .f32 → FVec Ideal S512x512 .f32
  | 0, v => v
  | r + 1, v => round (rounds r v)

/-- The pool's block of the result, with `r` rounds of masking. -/
def poolV (r : ℕ) (l : FVec Ideal S512x512 .f32) : FVec Ideal S512x512 .f32 :=
  select (cmpf .oge l (along (top (rounds r l))))
    (mulf (exp (subf l (along (top l)))) (along (divf (broadcast S512x1 (Scalar.ofBits .f32 0x3F800000#32)) (rowSum (exp (subf l (along (top l))))))))
    (broadcast S512x512 (Scalar.ofBits .f32 0x00000000#32))

/-! ## Their entries -/

/-- A row of a block. -/
def row (v : FVec Ideal S512x512 .f32) (p : Fin 512) : Fin 512 → EReal := fun j => v (ix2 p j)

/-- The greatest entry of row `p`. -/
theorem top_apply (v : FVec Ideal S512x512 .f32) (p : Fin 512) (u : Fin 1) : top v (ix2 p u) = rowMax (row v p) := by
  unfold top
  rw [shapeCast_a_a1_apply]
  refine (Ideal.multiReduction_maximumf_single v _ _ _ _ (ix1 p)).trans ?_
  rw [lit_bot]
  have e : (v ∘ (reduces_S512x512_S512).lift (ix1 p) : Fin 512 → EReal) = row v p := by
    funext j
    exact congrArg v (funext fun a => by fin_cases a <;> rfl)
  unfold rowMax
  rw [← e]
  rfl

/-- The sum of row `p`. -/
theorem rowSum_apply (v : FVec Ideal S512x512 .f32) (p : Fin 512) (u : Fin 1) : rowSum v (ix2 p u) = ∑ j, row v p j := by
  unfold rowSum
  rw [shapeCast_a_a1_apply]
  refine (Ideal.multiReduction_add_single v _ _ _ _ (ix1 p)).trans ?_
  refine Finset.sum_congr rfl fun j _ => ?_
  exact congrArg v (funext fun a => by fin_cases a <;> rfl)

/-- A column's entry along its row. -/
theorem along_apply (c : FVec Ideal S512x1 .f32) (p j : Fin 512) : along c (ix2 p j) = c (ix2 p (0 : Fin 1)) := by
  refine broadcastTo_apply c _ (ix2 p j) (ix2 p (0 : Fin 1)) fun a => ?_
  match a with
  | ⟨0, _⟩ => rfl
  | ⟨1, _⟩ => rfl

/-- The comparison ≥ of two ideal numbers as a bit. -/
theorem cmp_oge (a b : EReal) : (Ideal.cmp .oge a b = 1#1) ↔ b ≤ a := by
  unfold Ideal.cmp
  by_cases h : b ≤ a <;> simp [h]

/-- A round masks every row. -/
theorem round_row (v : FVec Ideal S512x512 .f32) (p : Fin 512) : row (round v) p = mask (row v p) := by
  funext j
  unfold row round
  rw [select_apply, cmpf_apply, broadcast_apply, along_apply, top_apply, Ideal.cmpf_def]
  rw [scalar_bot]
  unfold Scalar.select mask
  exact if_congr (cmp_oge _ _) rfl rfl

/-- The rounds mask every row as many times. -/
theorem rounds_row (r : ℕ) (v : FVec Ideal S512x512 .f32) (p : Fin 512) : row (rounds r v) p = masked (row v p) r := by
  induction r with
  | zero => rfl
  | succ r ih =>
    show row (round (rounds r v)) p = mask (masked (row v p) r)
    rw [round_row, ih]

/-- The exponentials of a row. -/
theorem exps_apply (l : FVec Ideal S512x512 .f32) (p j : Fin 512) : exp (subf l (along (top l))) (ix2 p j) = ex (row l p) j := by
  show Ideal.exp (l (ix2 p j) - along (top l) (ix2 p j)) = _
  rw [along_apply, top_apply]
  rfl

/-- An entry of the pool's block: the routed row by threshold. -/
theorem poolV_apply (r : ℕ) (l : FVec Ideal S512x512 .f32) (p j : Fin 512) : poolV r l (ix2 p j) = pool r (row l p) j := by
  have ht : divf (broadcast S512x1 (Scalar.ofBits .f32 0x3F800000#32)) (rowSum (exp (subf l (along (top l))))) (ix2 p (0 : Fin 1)) = Ideal.div 1 (tot (row l p)) := by
    rw [divf_apply, broadcast_apply, rowSum_apply]
    rw [scalar_one]
    exact congrArg (Ideal.div 1) (Finset.sum_congr rfl fun j _ => exps_apply l p j)
  unfold poolV
  rw [select_apply, cmpf_apply, broadcast_apply, mulf_apply, along_apply, along_apply, ht, top_apply, rounds_row, exps_apply, Ideal.cmpf_def]
  rw [scalar_zero]
  unfold Scalar.select Router.pool
  exact if_congr (cmp_oge _ _) rfl rfl

end Cert.KernelIdeal.Router
-- ==== Proof.Row.Logits.lean ====
/- The logits of the router, entry by entry: a token's projected query against a neuron's normalised embedding. -/
module

public import Idealize.ShloMosaic.PureOps.Ideal.Laws
public import proofs.«01_k».proof.Proof.Row.Literals

@[expose] public section

noncomputable section

namespace Cert.Router

open Idealize.ShloMosaic

/-- One entry of a token's projection: the token's row against a column of weights, plus that column's bias. -/
def proj (x w : Fin 4096 → EReal) (b : EReal) : EReal := (∑ m, x m * w m) + b

/-- What an embedding is divided by: its Euclidean norm, but at least about 1e-12. -/
def norm (e : Fin 64 → EReal) : EReal := max (Ideal.sqrt (∑ d, e d * e d)) (FloatOps.ofBits .f32 0x2B8CBCCC#32 : Ideal .f32)

/-- The logit of a query and an embedding: their inner product, the embedding divided by its norm. -/
def logit (q e : Fin 64 → EReal) : EReal := ∑ d, q d * Ideal.div (e d) (norm e)

/-- The norm is positive. -/
theorem norm_pos (e : Fin 64 → EReal) : 0 < norm e := lt_of_lt_of_le lit_eps_pos (le_max_right _ _)

/-- Multiplying by the norm's reciprocal is dividing by the norm. -/
theorem mul_div_one (y : EReal) (e : Fin 64 → EReal) : y * Ideal.div 1 (norm e) = Ideal.div y (norm e) := by
  unfold Ideal.div
  rw [if_neg (norm_pos e).ne', if_neg (norm_pos e).ne', one_mul]

end Cert.Router
-- ==== Proof.Kernel.Logits.lean ====
/- The logits the kernel's body computes from its blocks, at an entry. -/
module

public import proofs.«01_k».proof.Proof.Row.Logits
public import proofs.«01_k».proof.Proof.Gen.KernelIdeal.Frame
public import Idealize.ShloMosaic.Lib.ValueLayout
public import Idealize.ShloMosaic.Lib.ValueLayoutCasts
public import Idealize.ShloMosaic.Lib.ValueIdx
public import Idealize.ShloMosaic.Lib.MatmulPlain

@[expose] public section

noncomputable section

namespace Cert.KernelIdeal.Router

open Idealize.ShloMosaic Idealize.ShloMosaic.ValueIdx Cert.KernelIdeal Cert.KernelIdeal.Gen Cert.Router

/-- The projection at (p, c): row `p` of the token block against column `c` of the weights, plus the bias. -/
theorem proj_apply (x : FVec Ideal S512x4096 .f32) (w : FVec Ideal S4096x384 .f32) (b : FVec Ideal S1x384 .f32) (p : Fin 512) (c : Fin 384) :
    k0_pay2 (F := Ideal) x w b (ix2 p c) = proj (fun m => x (ix2 p m)) (fun m => w (ix2 m c)) (b (ix2 (0 : Fin 1) c)) := by
  unfold k0_pay2
  rw [addf_apply, shapeCast_self, shapeCast_self, broadcastTo_1b_ab_apply]
  refine congrArg (· + b (ix2 (0 : Fin 1) c)) ?_
  refine (Ideal.matmul_plain_apply (M := 512) (K := 4096) (N := 384) none x w _ p c).trans ?_
  rw [constant_apply, Ideal.ofBits_zero_f32, zero_add]

/-- The normalised embedding at (n, d). -/
theorem emb_apply (e : FVec Ideal S3072x64 .f32) (n : Fin 3072) (d : Fin 64) :
    k0_pay3 (F := Ideal) e (ix2 n d) = Ideal.div (e (ix2 n d)) (norm fun d => e (ix2 n d)) := by
  unfold k0_pay3
  rw [mulf_apply, shapeCast_self]
  rw [← mul_div_one]
  refine congrArg (e (ix2 n d) * ·) ?_
  refine (broadcastTo_apply _ _ (ix2 n d) (ix2 n (0 : Fin 1)) fun a => ?_).trans ?_
  · match a with
    | ⟨0, _⟩ => rfl
    | ⟨1, _⟩ => rfl
  rw [divf_apply, broadcast_apply, scalar_one, maximumf_apply, broadcast_apply]
  refine congrArg (Ideal.div 1) (congrArg (max · _) ?_)
  refine congrArg Ideal.sqrt ?_
  rw [shapeCast_a_a1_apply]
  refine (Ideal.multiReduction_add_single _ _ _ _ _ (ix1 n)).trans ?_
  refine Finset.sum_congr rfl fun k _ => ?_
  have hk : (reduces_S3072x64_S3072).lift (ix1 n) k = ix2 n k := funext fun a => by fin_cases a <;> rfl
  rw [hk]
  rfl

/-- A pool's logits from the projection and the normalised embeddings: columns from `a`, neurons from `b`. -/
def logitsV (a b : ℕ) (ha : S512x384.Slices ![0, a] S512x64) (hb : S3072x64.Slices ![b, 0] S512x64)
    (q : FVec Ideal S512x384 .f32) (e : FVec Ideal S3072x64 .f32) : FVec Ideal S512x512 .f32 :=
  matmul dot_S512x64_S512x64_S512x512_1_1_0_0_n_n none (extractStridedSlice S512x64 ![0, a] q ha)
    (extractStridedSlice S512x64 ![b, 0] e hb) (constant S512x512 .f32 0x00000000#32)

/-- Their entry at (p, j): the inner product of row `p`'s columns from `a` with neuron `b + j`. -/
theorem logitsV_apply (a b : ℕ) (ha : S512x384.Slices ![0, a] S512x64) (hb : S3072x64.Slices ![b, 0] S512x64)
    (ha' : a + 64 ≤ 384) (hb' : b + 512 ≤ 3072)
    (q : FVec Ideal S512x384 .f32) (e : FVec Ideal S3072x64 .f32) (p j : Fin 512) :
    logitsV a b ha hb q e (ix2 p j)
      = ∑ d : Fin 64, q (ix2 p (⟨a + d.val, by omega⟩ : Fin 384)) * e (ix2 (⟨b + j.val, by omega⟩ : Fin 3072) d) := by
  unfold logitsV
  refine (Ideal.matmul_transposedRhs_apply (M := 512) (K := 64) (N := 512) none _ _ _ p j).trans ?_
  rw [constant_apply, Ideal.ofBits_zero_f32, zero_add]
  refine Finset.sum_congr rfl fun d _ => ?_
  rw [slice2_axis1_apply a q ha p d ⟨a + d.val, by omega⟩ rfl, slice2_axis0_apply b e hb j d ⟨b + j.val, by omega⟩ rfl]

/-- The logits of the body at (p, j): the logit of the token's query and the neuron's embedding. -/
theorem logits_apply (a b : ℕ) (ha : S512x384.Slices ![0, a] S512x64) (hb : S3072x64.Slices ![b, 0] S512x64)
    (ha' : a + 64 ≤ 384) (hb' : b + 512 ≤ 3072)
    (x : FVec Ideal S512x4096 .f32) (w : FVec Ideal S4096x384 .f32) (c : FVec Ideal S1x384 .f32) (e : FVec Ideal S3072x64 .f32) (p j : Fin 512) :
    logitsV a b ha hb (k0_pay2 (F := Ideal) x w c) (k0_pay3 (F := Ideal) e) (ix2 p j)
      = logit (fun d => proj (fun m => x (ix2 p m)) (fun m => w (ix2 m (⟨a + d.val, by omega⟩ : Fin 384))) (c (ix2 (0 : Fin 1) (⟨a + d.val, by omega⟩ : Fin 384))))
          (fun d => e (ix2 (⟨b + j.val, by omega⟩ : Fin 3072) d)) := by
  rw [logitsV_apply a b ha hb ha' hb']
  refine Finset.sum_congr rfl fun d _ => ?_
  rw [proj_apply, emb_apply]

end Cert.KernelIdeal.Router
-- ==== Proof.Kernel.Payloads.lean ====
/- Each of the six blocks the body stores is the pool function of that pool's logits. -/
module

public import proofs.«01_k».proof.Proof.Kernel.Pool
public import proofs.«01_k».proof.Proof.Kernel.Logits

@[expose] public section

noncomputable section

namespace Cert.KernelIdeal.Router

open Idealize.ShloMosaic Cert.KernelIdeal Cert.KernelIdeal.Gen

/-- The block of pool 0: seven rounds on the logits of columns 0 … 63 and neurons 0 … 511. -/
theorem store_0 (x : FVec Ideal S512x4096 .f32) (w : FVec Ideal S4096x384 .f32) (b : FVec Ideal S1x384 .f32) (e : FVec Ideal S3072x64 .f32) :
    k0_pay9 (F := Ideal) (k0_pay4 x w b e) (k0_pay5 x w b e) (k0_pay6 x w b e) (k0_pay7 (F := Ideal) x w b e) k0_pay8
      = poolV 7 (logitsV 0 0 slices_S512x384_o0_0_S512x64 slices_S3072x64_o0_0_S512x64 (k0_pay2 x w b) (k0_pay3 e)) := rfl

variable (q : FVec Ideal S512x384 .f32) (e : FVec Ideal S3072x64 .f32)

/-- The block of pool 1: seven rounds on the logits of columns 64 … and neurons 512 …. -/
theorem store_1 : k0_pay14 (F := Ideal) (k0_pay10 q e) (k0_pay12 (k0_pay10 q e)) (k0_pay13 (k0_pay10 q e))
      = poolV 7 (logitsV 64 512 slices_S512x384_o0_64_S512x64 slices_S3072x64_o512_0_S512x64 q e) := rfl

/-- The block of pool 2: two rounds on the logits of columns 128 … and neurons 1024 …. -/
theorem store_2 : k0_pay15 (F := Ideal) q e
      = poolV 2 (logitsV 128 1024 slices_S512x384_o0_128_S512x64 slices_S3072x64_o1024_0_S512x64 q e) := rfl

/-- The block of pool 3: seven rounds on the logits of columns 192 … and neurons 1536 …. -/
theorem store_3 : k0_pay20 (F := Ideal) (k0_pay16 q e) (k0_pay17 q e) (k0_pay18 q e) (k0_pay19 (F := Ideal) q e) (Scalar.ofBits .f32 0xFF800000#32)
      = poolV 7 (logitsV 192 1536 slices_S512x384_o0_192_S512x64 slices_S3072x64_o1536_0_S512x64 q e) := rfl

/-- The block of pool 4: seven rounds on the logits of columns 256 … and neurons 2048 …. -/
theorem store_4 : k0_pay26 (F := Ideal) (k0_pay21 q e) (k0_pay22 q e) (k0_pay23 q e) (k0_pay24 (F := Ideal) q e) k0_pay25
      = poolV 7 (logitsV 256 2048 slices_S512x384_o0_256_S512x64 slices_S3072x64_o2048_0_S512x64 q e) := rfl

/-- The block of pool 5: two rounds on the logits of columns 320 … and neurons 2560 …. -/
theorem store_5 : k0_pay1 (F := Ideal) (k0_pay27 q e) (k0_pay28 q e) (k0_pay29 q e)
      = poolV 2 (logitsV 320 2560 slices_S512x384_o0_320_S512x64 slices_S3072x64_o2560_0_S512x64 q e) := rfl

end Cert.KernelIdeal.Router
-- ==== Proof.Row.Route.lean ====
/- One token's routing weights: over the six pools of 512 neurons each, the routed row by threshold of the pool's
   logits. -/
module

public import proofs.«01_k».proof.Proof.Row.Softmax
public import proofs.«01_k».proof.Proof.Row.Logits
public import Idealize.ShloMosaic.Lib.ValueIdxCore

@[expose] public section

noncomputable section

namespace Cert.Router

open Idealize.ShloMosaic Idealize.ShloMosaic.ValueIdx

/-- The rounds of masking in each pool: seven, or two in the third and the sixth. -/
def turns : Fin 6 → ℕ := ![7, 7, 2, 7, 7, 2]

/-- Column `d` of pool `i`'s part of the projection. -/
def col (i : Fin 6) (d : Fin 64) : Fin 384 := ⟨64 * i.val + d.val, by omega⟩

/-- Neuron `j` of pool `i`. -/
def neuron (i : Fin 6) (j : Fin 512) : Fin 3072 := ⟨512 * i.val + j.val, by omega⟩

/-- The pool a neuron lies in. -/
def poolOf (n : Fin 3072) : Fin 6 := ⟨n.val / 512, by omega⟩

/-- A neuron's place in its pool. -/
def placeOf (n : Fin 3072) : Fin 512 := ⟨n.val % 512, Nat.mod_lt _ (by omega)⟩

variable (x : Fin 4096 → EReal) (w : Fin 4096 → Fin 384 → EReal) (b : Fin 384 → EReal) (e : Fin 3072 → Fin 64 → EReal)

/-- A token's logits in pool `i`. -/
def poolLogits (i : Fin 6) (j : Fin 512) : EReal :=
  logit (fun d => proj x (fun m => w m (col i d)) (b (col i d))) (e (neuron i j))

/-- A token's routing weights. -/
def route (n : Fin 3072) : EReal := pool (turns (poolOf n)) (poolLogits x w b e (poolOf n)) (placeOf n)

/-- A neuron given by its pool and place lies in that pool … -/
theorem poolOf_neuron (i : Fin 6) (j : Fin 512) : poolOf (neuron i j) = i := Fin.ext (by
  show (512 * i.val + j.val) / 512 = i.val
  omega)

/-- … at that place. -/
theorem placeOf_neuron (i : Fin 6) (j : Fin 512) : placeOf (neuron i j) = j := Fin.ext (by
  show (512 * i.val + j.val) % 512 = j.val
  omega)

/-- Every neuron is the one at its place in its pool. -/
theorem neuron_eq (n : Fin 3072) : neuron (poolOf n) (placeOf n) = n := Fin.ext (by
  show 512 * (n.val / 512) + n.val % 512 = n.val
  omega)

/-- The weights at a neuron given by its pool and place. -/
theorem route_neuron (i : Fin 6) (j : Fin 512) : route x w b e (neuron i j) = pool (turns i) (poolLogits x w b e i) j := by
  unfold route
  rw [poolOf_neuron, placeOf_neuron]

/-- The routing weights of every token of the batch, from the four arrays: token (t, s), neuron `n`. -/
def weights (X : (⟨3, ![4, 2048, 4096]⟩ : Shape).Idx → EReal) (W : (⟨2, ![4096, 384]⟩ : Shape).Idx → EReal)
    (B : (⟨1, ![384]⟩ : Shape).Idx → EReal) (E : (⟨2, ![5120, 64]⟩ : Shape).Idx → EReal) (t : Fin 4) (s : Fin 2048) (n : Fin 3072) : EReal :=
  route (fun k => X (ix3 t s k)) (fun k c => W (ix2 k c)) (fun c => B (ix1 c)) (fun n d => E (ix2 (n.castLE (by omega) : Fin 5120) d)) n

end Cert.Router
-- ==== Proof.Kernel.Body.lean ====
/- What the body leaves in its output block: each token's routing weights. -/
module

public import proofs.«01_k».proof.Proof.Kernel.Payloads
public import proofs.«01_k».proof.Proof.Row.Route
public import Idealize.ShloMosaic.Lib.Pipeline.ValueKit.Geometry

@[expose] public section

noncomputable section

namespace Cert.KernelIdeal.Router

open Idealize.ShloMosaic Idealize.ShloMosaic.ValueIdx Idealize.ShloMosaic.Pipeline Cert.KernelIdeal Cert.KernelIdeal.Gen Cert.Router

/-- A load from the origin of a whole block's extent is the block. -/
theorem origin : (![0, 0] : Fin 2 → ℕ) = fun _ => 0 := funext fun a => by fin_cases a <;> rfl

variable (x : FVec Ideal S512x4096 .f32) (w : FVec Ideal S4096x384 .f32) (b : FVec Ideal S1x384 .f32) (e : FVec Ideal S3072x64 .f32)

/-- The routing weights of the token in row `p` of a block. -/
def rowWeights (p : Fin 512) (n : Fin 3072) : EReal :=
  route (fun m => x (ix2 p m)) (fun m c => w (ix2 m c)) (fun c => b (ix2 (0 : Fin 1) c)) (fun n d => e (ix2 n d)) n

/-- A pool's stored block at (p, j): the token's weight at the pool's neuron `j`. -/
theorem store_apply (i : Fin 6) (r : ℕ) (hr : r = turns i) (c o : ℕ) (hc : c = 64 * i.val) (ho : o = 512 * i.val)
    (hs : S512x384.Slices ![0, c] S512x64) (hs' : S3072x64.Slices ![o, 0] S512x64) (p j : Fin 512) :
    poolV r (logitsV c o hs hs' (k0_pay2 (F := Ideal) x w b) (k0_pay3 (F := Ideal) e)) (ix2 p j) = rowWeights x w b e p (neuron i j) := by
  subst hr hc ho
  unfold rowWeights
  rw [poolV_apply, route_neuron]
  refine congrArg (fun l => Router.pool (turns i) l j) (funext fun k => ?_)
  exact logits_apply _ _ hs hs' (by omega) (by omega) x w b e p k

/-- The stored piece at columns 512 i … agrees with the weights. -/
theorem piece (i : Fin 6) (o : ℕ) (ho : o = 512 * i.val)
    (hb : ∀ a, (![0, o] : Fin 2 → ℕ) a + S512x512.size a ≤ S512x3072.size a) (v : FVec Ideal S512x512 .f32)
    (hv : ∀ p j : Fin 512, v (ix2 p j) = rowWeights x w b e p (neuron i j))
    (y : (Rect.unit (s := S512x3072) ![0, o] S512x512.size hb).shape.Idx) :
    v y = rowWeights x w b e ((Rect.unit (s := S512x3072) ![0, o] S512x512.size hb).emb y 0) ((Rect.unit (s := S512x3072) ![0, o] S512x512.size hb).emb y 1) := by
  subst ho
  have hy : y = ix2 (y 0) (y 1) := eq_ix2 y
  have e0 : (Rect.unit (s := S512x3072) ![0, 512 * i.val] S512x512.size hb).emb y 0 = y 0 :=
    Fin.ext (by rw [ValueKit.rect_emb_unit_val]; exact Nat.zero_add _)
  have e1 : (Rect.unit (s := S512x3072) ![0, 512 * i.val] S512x512.size hb).emb y 1 = neuron i (y 1) :=
    Fin.ext (ValueKit.rect_emb_unit_val _ _ hb y 1)
  rw [e0, e1, ← hv (y 0) (y 1)]
  exact congrArg v hy

/-- Six pieces that tile the block and agree with one function of the index leave that function. -/
theorem tiled (G : S512x3072.Idx → EReal) (v0 v1 v2 v3 v4 v5 : FVec Ideal S512x512 .f32)
    (h0 : ∀ y, v0 y = G (r0_4.emb y)) (h1 : ∀ y, v1 y = G (r0_5.emb y)) (h2 : ∀ y, v2 y = G (r0_6.emb y))
    (h3 : ∀ y, v3 y = G (r0_7.emb y)) (h4 : ∀ y, v4 y = G (r0_8.emb y)) (h5 : ∀ y, v5 y = G (r0_9.emb y)) (y : S512x3072.Idx) :
    View.canon ([⟨r0_9, v5⟩, ⟨r0_8, v4⟩, ⟨r0_7, v3⟩, ⟨r0_6, v2⟩, ⟨r0_5, v1⟩, ⟨r0_4, v0⟩] : List (View.Piece (Elt Ideal) S512x3072 .f32)) y = G y := by
  refine View.canon_apply_of_pieces (Val := Elt Ideal) (e := .f32) G _ ?_ y (cover0_4 (F := Ideal) v5 v4 v3 v2 v1 v0 y)
  intro pc hpc
  simp only [List.mem_cons, List.not_mem_nil, or_false] at hpc
  rcases hpc with rfl | rfl | rfl | rfl | rfl | rfl
  · exact h5
  · exact h4
  · exact h3
  · exact h2
  · exact h1
  · exact h0

/-- The body's output block: row `p` holds the token's routing weights. -/
theorem out_apply (y : S512x3072.Idx) : out0_4 (F := Ideal) x w b e y = rowWeights x w b e (y 0) (y 1) := by
  have hx : View.ld (Val := Elt Ideal) (e' := .f32) x r0_0 = x := View.ld_unit_zero (Val := Elt Ideal) (e := .f32) origin _ x
  have hw : View.ld (Val := Elt Ideal) (e' := .f32) w r0_1 = w := View.ld_unit_zero (Val := Elt Ideal) (e := .f32) origin _ w
  have hb : View.ld (Val := Elt Ideal) (e' := .f32) b r0_2 = b := View.ld_unit_zero (Val := Elt Ideal) (e := .f32) origin _ b
  have he : View.ld (Val := Elt Ideal) (e' := .f32) e r0_3 = e := View.ld_unit_zero (Val := Elt Ideal) (e := .f32) origin _ e
  unfold_out out0_4
  rw [hx, hw, hb, he]
  refine tiled (fun y => rowWeights x w b e (y 0) (y 1)) _ _ _ _ _ _ ?_ ?_ ?_ ?_ ?_ ?_ y
  · refine piece x w b e 0 0 rfl _ _ fun p j => (congrFun (store_0 x w b e) _).trans ?_
    exact store_apply x w b e 0 7 rfl 0 0 rfl rfl _ _ p j
  · refine piece x w b e 1 512 rfl _ _ fun p j => (congrFun (store_1 _ _) _).trans ?_
    exact store_apply x w b e 1 7 rfl 64 512 rfl rfl _ _ p j
  · refine piece x w b e 2 1024 rfl _ _ fun p j => (congrFun (store_2 _ _) _).trans ?_
    exact store_apply x w b e 2 2 rfl 128 1024 rfl rfl _ _ p j
  · refine piece x w b e 3 1536 rfl _ _ fun p j => (congrFun (store_3 _ _) _).trans ?_
    exact store_apply x w b e 3 7 rfl 192 1536 rfl rfl _ _ p j
  · refine piece x w b e 4 2048 rfl _ _ fun p j => (congrFun (store_4 _ _) _).trans ?_
    exact store_apply x w b e 4 7 rfl 256 2048 rfl rfl _ _ p j
  · refine piece x w b e 5 2560 rfl _ _ fun p j => (congrFun (store_5 _ _) _).trans ?_
    exact store_apply x w b e 5 2 rfl 320 2560 rfl rfl _ _ p j

end Cert.KernelIdeal.Router
-- ==== Proof.Kernel.Arrays.lean ====
/- The arrays of the launch: the input windows' blocks as entries of the arguments, and the result array whole. -/
module

public import proofs.«01_k».proof.Proof.Kernel.Body
public import Idealize.ShloMosaic.Lib.StableHlo.RunRead
public import Idealize.ShloMosaic.Lib.Pipeline.Value

@[expose] public section

noncomputable section

namespace Cert.KernelIdeal.Router

open Idealize.ShloMosaic Idealize.ShloMosaic.TcCoe Idealize.ShloMosaic.ValueIdx Idealize.SL.Sem Cert.KernelIdeal Cert.KernelIdeal.Gen Cert.Router

variable (m : (ℓ : Loc nD τ sig) → Buf (Elt Ideal) ℓ)

/-- The arguments: the tokens, -/
abbrev argX (c : Dev nD) : S4x2048x4096.Idx → EReal := m ((c : Thread nD τ).loc main_arg0)
/-- the projection's weights, -/
abbrev argW (c : Dev nD) : S4096x384.Idx → EReal := m ((c : Thread nD τ).loc main_arg2)
/-- its bias, -/
abbrev argB (c : Dev nD) : S384.Idx → EReal := m ((c : Thread nD τ).loc main_arg3)
/-- and the neurons' embeddings. -/
abbrev argE (c : Dev nD) : S5120x64.Idx → EReal := m ((c : Thread nD τ).loc main_arg4)

/-! ## The host lines before the launch -/

/-- The tokens with batch and position in one axis. -/
theorem tokens_eq (c : Dev nD) : V m c main_v0 = shapeCast S8192x4096 (argX m c) shapeCasts_S4x2048x4096_S8192x4096 := by
  unfold V V0
  after_reads_simp
  rfl

/-- The first 3072 embeddings. -/
theorem embs_eq (c : Dev nD) : V m c main_v1 = extractStridedSlice S3072x64 ![0, 0] (argE m c) slices_S5120x64_S3072x64_0_0 := by
  unfold V V0
  after_reads_simp

/-- The bias as a row. -/
theorem bias_eq (c : Dev nD) : V m c main_v2 = shapeCast S1x384 (argB m c) shapeCasts_S384_S1x384 := by
  unfold V V0
  after_reads_simp
  rfl

/-- The tokens at row `2048 t + s`. -/
theorem tokens_apply (c : Dev nD) (t : Fin 4) (s : Fin 2048) (r : Fin 8192) (hr : r.val = 2048 * t.val + s.val) (k : Fin 4096) :
    V m c main_v0 (ix2 r k) = argX m c (ix3 t s k) := by
  rw [tokens_eq]
  refine shapeCast_apply _ _ _ _ ?_
  rw [Shape.rowMajor_val_two, Shape.rowMajor_val_three]
  show (t.val * 2048 + s.val) * 4096 + k.val = r.val * 4096 + k.val
  rw [hr, Nat.mul_comm 2048]

/-- The embeddings at neuron `n`. -/
theorem embs_apply (c : Dev nD) (n : Fin 3072) (d : Fin 64) :
    V m c main_v1 (ix2 n d) = argE m c (ix2 (n.castLE (by omega) : Fin 5120) d) := by
  rw [embs_eq]
  exact slice2_axis0_apply 0 (argE m c) slices_S5120x64_S3072x64_0_0 n d _ (Nat.zero_add _).symm

/-- The bias at column `k`. -/
theorem bias_apply (c : Dev nD) (u : Fin 1) (k : Fin 384) : V m c main_v2 (ix2 u k) = argB m c (ix1 k) := by
  rw [bias_eq]
  refine shapeCast_apply _ _ _ _ ?_
  rw [Shape.rowMajor_val_two, Shape.rowMajor_val_one]
  show k.val = u.val * 384 + k.val
  omega

/-! ## The input windows' blocks -/

/-- Window 0's block at point `t` is the token rows from `512 t`. -/
theorem block_0 (c : Dev nD) (t : Fin cfg0.N) (p : Fin 512) (k : Fin 4096) (r : Fin 8192) (hr : r.val = 512 * t.val + p.val) :
    iblk m c 0 t (ix2 p k) = V m c main_v0 (ix2 r k) := by
  unfold iblk
  rw [View.read_apply]
  refine congrArg (V m c main_v0) ?_
  funext a
  apply Fin.ext
  have h : win0_0.index t 0 = t.val ∧ win0_0.index t 1 = 0 := by
    rcases fin_N0 t with rfl | rfl | rfl | rfl | rfl | rfl | rfl | rfl | rfl | rfl | rfl | rfl | rfl | rfl | rfl | rfl <;> decide +kernel
  match a with
  | ⟨0, _⟩ =>
    show win0_0.index t 0 * 512 + 1 * p.val = r.val
    rw [h.1, hr]; omega
  | ⟨1, _⟩ =>
    show win0_0.index t 1 * 4096 + 1 * k.val = k.val
    rw [h.2]; omega

/-- Window 1's block is the whole array of weights. -/
theorem block_1 (c : Dev nD) (t : Fin cfg0.N) (k : Fin 4096) (n : Fin 384) : iblk m c 1 t (ix2 k n) = argW m c (ix2 k n) := by
  unfold iblk
  rw [View.read_apply]
  refine (congrArg (V m c main_arg2) ?_).trans (congrFun (V_main_arg2 m c) _)
  funext a
  apply Fin.ext
  match a with
  | ⟨0, _⟩ => show 0 * 4096 + 1 * k.val = k.val; omega
  | ⟨1, _⟩ => show 0 * 384 + 1 * n.val = n.val; omega

/-- Window 2's block is the bias. -/
theorem block_2 (c : Dev nD) (t : Fin cfg0.N) (u : Fin 1) (n : Fin 384) : iblk m c 2 t (ix2 u n) = argB m c (ix1 n) := by
  unfold iblk
  rw [View.read_apply]
  refine (congrArg (V m c main_v2) ?_).trans (bias_apply m c u n)
  funext a
  apply Fin.ext
  match a with
  | ⟨0, _⟩ => show 0 * 1 + 1 * u.val = u.val; omega
  | ⟨1, _⟩ => show 0 * 384 + 1 * n.val = n.val; omega

/-- Window 3's block is the first 3072 embeddings. -/
theorem block_3 (c : Dev nD) (t : Fin cfg0.N) (n : Fin 3072) (d : Fin 64) :
    iblk m c 3 t (ix2 n d) = argE m c (ix2 (n.castLE (by omega) : Fin 5120) d) := by
  unfold iblk
  rw [View.read_apply]
  refine (congrArg (V m c main_v1) ?_).trans (embs_apply m c n d)
  funext a
  apply Fin.ext
  match a with
  | ⟨0, _⟩ => show 0 * 3072 + 1 * n.val = n.val; omega
  | ⟨1, _⟩ => show 0 * 64 + 1 * d.val = d.val; omega

/-! ## The result array -/

/-- What the launch's result array holds: at row `2048 t + s` the routing weights of token (t, s). -/
def result (c : Dev nD) : S8192x3072.Idx → EReal := fun i =>
  weights (argX m c) (argW m c) (argB m c) (argE m c)
    (⟨(i 0).val / 2048, by have h : (i 0).val < 8192 := (i 0).isLt; omega⟩ : Fin 4) (⟨(i 0).val % 2048, by omega⟩ : Fin 2048) (i 1)

/-- The weights of row `p` of point `t`'s block are those of the token in row `512 t + p`. -/
theorem rowWeights_eq (c : Dev nD) (t : Fin cfg0.N) (p : Fin 512) (n : Fin 3072) (r : Fin 8192) (hr : r.val = 512 * t.val + p.val) :
    rowWeights (iblk m c 0 t) (iblk m c 1 t) (iblk m c 2 t) (iblk m c 3 t) p n = result m c (ix2 r n) := by
  have h0 : (fun k => iblk m c 0 t (ix2 p k) : Fin 4096 → EReal)
      = fun k => argX m c (ix3 (⟨r.val / 2048, by omega⟩ : Fin 4) (⟨r.val % 2048, by omega⟩ : Fin 2048) k) :=
    funext fun k => (block_0 m c t p k r hr).trans (tokens_apply m c _ _ r (by show r.val = 2048 * (r.val / 2048) + r.val % 2048; omega) k)
  have h1 : (fun k n => iblk m c 1 t (ix2 k n) : Fin 4096 → Fin 384 → EReal) = fun k n => argW m c (ix2 k n) :=
    funext fun k => funext fun n => block_1 m c t k n
  have h2 : (fun n => iblk m c 2 t (ix2 (0 : Fin 1) n) : Fin 384 → EReal) = fun n => argB m c (ix1 n) :=
    funext fun n => block_2 m c t 0 n
  have h3 : (fun n d => iblk m c 3 t (ix2 n d) : Fin 3072 → Fin 64 → EReal) = fun n d => argE m c (ix2 (n.castLE (by omega) : Fin 5120) d) :=
    funext fun n => funext fun d => block_3 m c t n d
  unfold rowWeights
  rw [h0, h1, h2, h3]
  rfl

/-- Where the result's block at point `t` lies: rows from `512 t`, every column. -/
theorem place (t : Fin cfg0.N) : win0_4.index t 0 * win0_4.size 0 = t.val * 512 ∧ win0_4.xsize (grid0.coords t) 0 = 512
      ∧ win0_4.index t 1 * win0_4.size 1 = 0 ∧ win0_4.xsize (grid0.coords t) 1 = 3072 := by
  rcases fin_N0 t with rfl | rfl | rfl | rfl | rfl | rfl | rfl | rfl | rfl | rfl | rfl | rfl | rfl | rfl | rfl | rfl <;> decide +kernel

/-- What point `t` writes back is its block of the result. -/
theorem flushed_eq (c : Dev nD) (t : Fin cfg0.N) :
    (dats m 0 c).flushed 4 t = (win0_4.blk t).view.read (Elt Ideal) (result m c) := by
  show (cfg0.win 4).cut (grid0.coords t) ((dats m 0 c).after 4 t) = _
  rw [after0_4]
  funext y
  have ht : t.val < 16 := lt_of_lt_of_eq t.isLt N_0
  have hy0 : (y 0).val < 512 := (y 0).isLt
  have hy1 : (y 1).val < 3072 := (y 1).isLt
  rw [View.read_apply]
  refine (out_apply (iblk m c 0 t) (iblk m c 1 t) (iblk m c 2 t) (iblk m c 3 t) _).trans ?_
  refine (rowWeights_eq m c t (⟨(y 0).val, hy0⟩ : Fin 512) (⟨(y 1).val, hy1⟩ : Fin 3072) (⟨512 * t.val + (y 0).val, by omega⟩ : Fin 8192) rfl).trans ?_
  refine congrArg (result m c) ?_
  obtain ⟨e0, _, e1, _⟩ := place t
  funext a
  apply Fin.ext
  match a with
  | ⟨0, _⟩ =>
    show 512 * t.val + (y 0).val = win0_4.index t 0 * win0_4.size 0 + 1 * (y 0).val
    rw [e0]; omega
  | ⟨1, _⟩ =>
    show (y 1).val = win0_4.index t 1 * win0_4.size 1 + 1 * (y 1).val
    rw [e1]; omega

/-- Which rows a point's block of the result holds. -/
theorem mem_block (t : Fin cfg0.N) (i : S8192x3072.Idx) :
    i ∈ ((cfg0.win 4).blk t).view.set ↔ t.val * 512 ≤ (i 0).val ∧ (i 0).val < t.val * 512 + 512 := by
  show i ∈ ((View.whole main_v3).slice (win0_4.rect t)).set ↔ _
  rw [View.set_slice_whole, Rect.mem_set_unit]
  obtain ⟨e0, e0', e1, e1'⟩ := place t
  have h1 : (i 1).val < 3072 := (i 1).isLt
  constructor
  · intro h
    have h0 : win0_4.index t 0 * win0_4.size 0 ≤ (i 0).val ∧ (i 0).val < win0_4.index t 0 * win0_4.size 0 + win0_4.xsize (grid0.coords t) 0 := h 0
    rwa [e0, e0'] at h0
  · intro h a
    match a with
    | ⟨0, _⟩ =>
      show win0_4.index t 0 * win0_4.size 0 ≤ (i 0).val ∧ (i 0).val < win0_4.index t 0 * win0_4.size 0 + win0_4.xsize (grid0.coords t) 0
      rwa [e0, e0']
    | ⟨1, _⟩ =>
      show win0_4.index t 1 * win0_4.size 1 ≤ (i 1).val ∧ (i 1).val < win0_4.index t 1 * win0_4.size 1 + win0_4.xsize (grid0.coords t) 1
      rw [e1, e1']; omega

/-- Every entry of the result is written back at some point. -/
theorem covered (i : S8192x3072.Idx) : ∃ t : Fin cfg0.N, (cfg0.win 4).flush t = true ∧ i ∈ ((cfg0.win 4).blk t).view.set := by
  have h0 : (i 0).val < 8192 := (i 0).isLt
  refine ⟨⟨(i 0).val / 512, lt_of_lt_of_eq (by omega : (i 0).val / 512 < 16) N_0.symm⟩, flush0_4 _, ?_⟩
  rw [mem_block]
  dsimp only
  omega

/-- The launch leaves the result array at the tokens' routing weights. -/
theorem array_eq (c : Dev nD) : (dats m 0 c).arrAt 4 cfg0.N = result m c :=
  (dats m 0 c).arrAt_eq_of_cover 4 (result m c) (fun t _ => flushed_eq m c t) covered

end Cert.KernelIdeal.Router
-- ==== Proof.Kernel.Run.lean ====
/- The kernel's run: the result of `main` is the tokens' routing weights. -/
module

public import proofs.«01_k».proof.Proof.Kernel.Arrays

@[expose] public section

noncomputable section

namespace Cert.KernelIdeal.Router

open Idealize.ShloMosaic Idealize.ShloMosaic.TcCoe Idealize.ShloMosaic.ValueIdx Idealize.SL.Sem Cert.KernelIdeal Cert.KernelIdeal.Gen Cert.Router

variable (m : (ℓ : Loc nD τ sig) → Buf (Elt Ideal) ℓ)

/-- What `main` returns: the routing weights of token `(t, s)` at neuron `n`. -/
def output (c : Dev nD) : S4x2048x3072.Idx → EReal :=
  fun i => weights (argX m c) (argW m c) (argB m c) (argE m c) (i 0) (i 1) (i 2)

/-- A row index split into batch and position. -/
theorem split_apply (f : S8192x3072.Idx → EReal) (t : Fin 4) (s : Fin 2048) (n : Fin 3072) (r : Fin 8192) (hr : r.val = 2048 * t.val + s.val) :
    shapeCast S4x2048x3072 f shapeCasts_S8192x3072_S4x2048x3072 (ix3 t s n) = f (ix2 r n) := by
  refine shapeCast_apply _ _ _ _ ?_
  rw [Shape.rowMajor_val_two, Shape.rowMajor_val_three]
  show r.val * 3072 + n.val = (t.val * 2048 + s.val) * 3072 + n.val
  rw [hr, Nat.mul_comm 2048]

/-- The result array at row `2048 t + s`. -/
theorem result_apply (c : Dev nD) (t : Fin 4) (s : Fin 2048) (n : Fin 3072) (r : Fin 8192) (hr : r.val = 2048 * t.val + s.val) :
    result m c (ix2 r n) = weights (argX m c) (argW m c) (argB m c) (argE m c) t s n := by
  have hs : s.val < 2048 := s.isLt
  have key : ∀ (t' : Fin 4) (s' : Fin 2048), t' = t → s' = s →
      weights (argX m c) (argW m c) (argB m c) (argE m c) t' s' n = weights (argX m c) (argW m c) (argB m c) (argE m c) t s n := by
    rintro _ _ rfl rfl; rfl
  refine key _ _ (Fin.ext ?_) (Fin.ext ?_)
  · show r.val / 2048 = t.val; omega
  · show r.val % 2048 = s.val; omega

/-- The result array, its rows split into batch and position, is that. -/
theorem split_result (c : Dev nD) : shapeCast S4x2048x3072 (result m c) shapeCasts_S8192x3072_S4x2048x3072 = output m c := by
  funext i
  obtain ⟨t, s, n, rfl⟩ : ∃ t s n, i = ix3 t s n := ⟨i 0, i 1, i 2, by funext a; fin_cases a <;> rfl⟩
  have ht : t.val < 4 := t.isLt
  have hs : s.val < 2048 := s.isLt
  obtain ⟨r, hr⟩ : ∃ r : Fin 8192, r.val = 2048 * t.val + s.val := ⟨⟨2048 * t.val + s.val, by omega⟩, rfl⟩
  rw [split_apply _ t s n r hr, result_apply m c t s n r hr]
  rfl

/-- The lines after the launch leave it in `main`'s result. -/
theorem tail_eq (c : Dev nD) : Pipeline.afterTail₀ cfgs (dats m) 0 (V0 m) [hostOps1] c main_v4 = output m c := by
  rw [← split_result, ← array_eq]
  unfold Pipeline.afterTail₀ hostOps1
  after_reads_simp
  exact congrArg (fun a => shapeCast S4x2048x3072 a shapeCasts_S8192x3072_S4x2048x3072)
    (Pipeline.withArrays_arr (cfgs 0).spec winFacts0.arr_inj c (V0 m c) (fun w => (dats m 0 c).arrAt w (cfgs 0).N) 4)

/-- The kernel runs, returns the routing weights and leaves its arguments alone. -/
theorem run (ρ : Dev nD → PrngReg) :
    θ_run defs (onTc (τ := τ) (main (F := Ideal))) ⟨m, fun _ => 0, ρ⟩ (fun r => ∀ c : Dev nD,
      r.2.mem ((c.tc : Thread nD τ).loc main_v4) = output m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Router
-- ==== Proof.Reference.TopK.lean ====
/- The k greatest entries along the last axis of a three-axis array: at place `r` the entry, and the position, that
   comes `r`-th in the row's order. -/
module

public import proofs.«01_k».proof.Proof.Row.Order
public import Idealize.ShloMosaic.Lib.Pipeline.Value
public import Idealize.ShloMosaic.Lib.ValueIdxCore

@[expose] public section

noncomputable section

namespace Cert.Router

open Idealize.ShloMosaic Idealize.ShloMosaic.ValueIdx

variable {A B n k : ℕ}

/-- Index `(t, s, q)` moved along the last axis. -/
theorem along_last (t : Fin A) (s : Fin B) (q p : Fin n) :
    (ix3 t s q : (⟨3, ![A, B, n]⟩ : Shape).Idx).along 2 p = ix3 t s p := by
  funext a
  fin_cases a <;> rfl

/-- A sort of two arrays along the last axis, at an index: both entries come from the place the stable sort puts there. -/
theorem sort2_last {α β : Type} (cmp : α × β → α × β → BitVec 1) (x : (⟨3, ![A, B, n]⟩ : Shape).Idx → α)
    (y : (⟨3, ![A, B, n]⟩ : Shape).Idx → β) (t : Fin A) (s : Fin B) (q p : Fin n)
    (hp : p = sortedFrom (fun u v : Fin n => cmp (x (ix3 t s u), y (ix3 t s u)) (x (ix3 t s v), y (ix3 t s v)) == 1#1) q) :
    (Host.sort2 (⟨3, ![A, B, n]⟩ : Shape) 2 cmp x y).1 (ix3 t s q) = x (ix3 t s p)
      ∧ (Host.sort2 (⟨3, ![A, B, n]⟩ : Shape) 2 cmp x y).2 (ix3 t s q) = y (ix3 t s p) := by
  have al := along_last (A := A) (B := B) t s q
  have hπ : sortedFrom (fun u v : Fin n => cmp (x ((ix3 t s q : (⟨3, ![A, B, n]⟩ : Shape).Idx).along 2 u), y ((ix3 t s q : (⟨3, ![A, B, n]⟩ : Shape).Idx).along 2 u))
      (x ((ix3 t s q : (⟨3, ![A, B, n]⟩ : Shape).Idx).along 2 v), y ((ix3 t s q : (⟨3, ![A, B, n]⟩ : Shape).Idx).along 2 v)) == 1#1) q = p := by
    rw [hp]; simp only [al]
  unfold Host.sort2
  rw [dif_pos (show 2 < (⟨3, ![A, B, n]⟩ : Shape).rank from Nat.lt_succ_self 2)]
  exact ⟨congrArg x ((congrArg _ hπ).trans (al p)), congrArg y ((congrArg _ hπ).trans (al p))⟩

/-- The first `k` places of an array's last axis, at an index. -/
theorem firstPlaces_apply {α : Type} (x : (⟨3, ![A, B, n]⟩ : Shape).Idx → α)
    (h : (⟨3, ![A, B, n]⟩ : Shape).Slices (fun _ => 0) ⟨3, ![A, B, k]⟩) (hk : k ≤ n) (t : Fin A) (s : Fin B) (r : Fin k) :
    extractStridedSlice (⟨3, ![A, B, k]⟩ : Shape) (fun _ => 0) x h (ix3 t s r) = x (ix3 t s (r.castLE hk)) := by
  refine extractStridedSlice_apply _ _ _ _ _ fun a => ?_
  fin_cases a <;> exact (Nat.zero_add _).symm

/-- The `r`-th of the k greatest of a row, by the order of the row's entries, and its position. -/
theorem topK_apply (x : (⟨3, ![A, B, n]⟩ : Shape).Idx → EReal)
    (h : (⟨3, ![A, B, n]⟩ : Shape).Slices (fun _ => 0) ⟨3, ![A, B, k]⟩) (hk : k ≤ n) (t : Fin A) (s : Fin B) (r : Fin k) :
    (Host.topK (⟨3, ![A, B, k]⟩ : Shape) 2 (FloatOps.cmpfTotal (F := Ideal) (φ := .f32) .gt) x h).1 (ix3 t s r)
        = x (ix3 t s (order (fun j => x (ix3 t s j)) (r.castLE hk)))
      ∧ (Host.topK (⟨3, ![A, B, k]⟩ : Shape) 2 (FloatOps.cmpfTotal (F := Ideal) (φ := .f32) .gt) x h).2 (ix3 t s r)
        = BitVec.ofNat 32 (order (fun j => x (ix3 t s j)) (r.castLE hk)).val := by
  have key := sort2_last (fun l r : EReal × BitVec 32 => FloatOps.cmpfTotal (F := Ideal) (φ := .f32) .gt l.1 r.1) x
    (fun i => if hd : 2 < (⟨3, ![A, B, n]⟩ : Shape).rank then iotaInDim (⟨3, ![A, B, n]⟩ : Shape) 32 ⟨2, hd⟩ i else 0#32)
    t s (r.castLE hk) (order (fun j => x (ix3 t s j)) (r.castLE hk)) rfl
  unfold Host.topK
  exact ⟨(firstPlaces_apply _ h hk t s r).trans key.1, (firstPlaces_apply _ h hk t s r).trans key.2⟩

end Cert.Router
-- ==== Proof.Reference.Places.lean ====
/- The reference's write of the k chosen entries of every row: the table of places (batch, position, entry) and the
   scatter that sets those entries of an array, at any number k of entries per row. -/
module

public import proofs.«01_k».proof.Proof.Gen.ReferenceIdeal
public import proofs.«01_k».proof.Proof.Row.Literals
public import Idealize.ShloMosaic.Lib.Routing.OpsSet
public import Idealize.ShloMosaic.Lib.Pipeline.Value
public import Idealize.ShloMosaic.Lib.ValueIdxCore

@[expose] public section

noncomputable section

namespace Cert.ReferenceIdeal.Router

open Idealize.ShloMosaic Idealize.ShloMosaic.ValueIdx Cert.ReferenceIdeal

/-- `k` entries for each token. -/
abbrev SK (k : ℕ) : Shape := ⟨3, ![4, 2048, k]⟩
/-- A column of index words for them, -/
abbrev SK1 (k : ℕ) : Shape := ⟨4, ![4, 2048, k, 1]⟩
/-- and the table of three words each. -/
abbrev SK3 (k : ℕ) : Shape := ⟨4, ![4, 2048, k, 3]⟩

/-- How the shapes fit together at `k` entries per token. -/
structure Shapes (k : ℕ) : Prop where
  scalar : S_.BroadcastsInDim (SK k) (![] : Fin 0 → Fin (SK k).rank)
  batch : S4x1x1.BroadcastsInDim (SK k) (![0, 1, 2] : Fin 3 → Fin (SK k).rank)
  position : S1x2048x1.BroadcastsInDim (SK k) (![0, 1, 2] : Fin 3 → Fin (SK k).rank)
  column : (SK k).BroadcastsInDim (SK1 k) (![0, 1, 2] : Fin 3 → Fin (SK1 k).rank)
  join : Shape.Concatenates [SK1 k, SK1 k, SK1 k] (SK3 k) 3
  fits : S4x2048x512.Slices (fun _ => 0) (SK k)
  wf : ScatterDims.WF S4x2048x512 (SK3 k) (SK k) [] [0, 1, 2] [0, 1, 2] 3
  le : k ≤ 512

variable {k : ℕ}

/-- The scatter of one scalar per three index words. -/
def dims (hk : Shapes k) : ScatterDims S4x2048x512 (SK3 k) (SK k) where
  updateWindowDims := []
  insertedWindowDims := [0, 1, 2]
  scatterDimsToOperandDims := [0, 1, 2]
  indexVectorDim := 3
  wf := hk.wf

/-- The three index words of update `(t, s, r)` lie in the table's row of that name. -/
theorem words_at (hk : Shapes k) (t : Fin 4) (s : Fin 2048) (r : Fin k) (q : Fin 3) (hq : q.val < (dims hk).scatterDimsToOperandDims.length) :
    (dims hk).siIdx (ix3 t s r) ⟨q.val, hq⟩ = ix4 t s r q := by
  funext b
  fin_cases b <;> rfl

/-- Update `(t, s, r)` lands at `(t', s', j)` exactly when its three words say so. -/
theorem lands (hk : Shapes k) (idx : IVec (SK3 k) 32) (t t' : Fin 4) (s s' : Fin 2048) (r : Fin k) (j : Fin 512) :
    (dims hk).resultIdx? (ix3 t s r) idx = some (ix3 t' s' j)
      ↔ (idx (ix4 t s r (0 : Fin 3))).toInt = t'.val ∧ (idx (ix4 t s r (1 : Fin 3))).toInt = s'.val ∧ (idx (ix4 t s r (2 : Fin 3))).toInt = j.val := by
  have hstart : ∀ q : Fin 3, (dims hk).start (ix3 t s r) idx q = (idx (ix4 t s r q)).toInt := fun q => by
    unfold ScatterDims.start
    rw [dif_pos (show q ∈ (dims hk).scatterDimsToOperandDims by fin_cases q <;> simp [dims])]
    have := words_at hk t s r q (by exact q.isLt)
    fin_cases q <;> exact congrArg (fun i => (idx i).toInt) this
  have hwin : ∀ q : Fin 3, (dims hk).window (ix3 t s r) q = 0 := fun q => by
    unfold ScatterDims.window
    rw [dif_neg fun h => (of_decide_eq_true (List.mem_filter.1 h).2) (by fin_cases q <;> simp [dims])]
  rw [Routing.resultIdx?_eq_some]
  constructor
  · intro h
    have h0 := h 0; have h1 := h 1; have h2 := h 2
    rw [hstart, hwin] at h0 h1 h2
    refine ⟨?_, ?_, ?_⟩
    · have : ((ix3 t' s' j : S4x2048x512.Idx) 0).val = t'.val := rfl
      omega
    · have : ((ix3 t' s' j : S4x2048x512.Idx) 1).val = s'.val := rfl
      omega
    · have : ((ix3 t' s' j : S4x2048x512.Idx) 2).val = j.val := rfl
      omega
  · rintro ⟨h0, h1, h2⟩ q
    rw [hstart, hwin]
    fin_cases q
    · exact (add_zero _).trans h0
    · exact (add_zero _).trans h1
    · exact (add_zero _).trans h2

/-- An index word brought up by the axis's size where it is negative. -/
def wrapped {sh : Shape} (h : S_.BroadcastsInDim sh (![] : Fin 0 → Fin sh.rank)) (n : BitVec 32) (x : IVec sh 32) : IVec sh 32 :=
  select (cmpi .slt x (broadcastInDim sh ![] h (constantI S_ 32 0#32))) (addi x (broadcastInDim sh ![] h (constantI S_ 32 n))) x

/-- A word that isn't negative stays. -/
theorem wrapped_apply {sh : Shape} (h : S_.BroadcastsInDim sh (![] : Fin 0 → Fin sh.rank)) (n : BitVec 32) (x : IVec sh 32) (i : sh.Idx)
    (hx : (x i).toNat < 2 ^ 31) : wrapped h n x i = x i :=
  Routing.wrap_of_lt (x i) _ hx

/-- The batch of each entry, -/
def batchWords (hk : Shapes k) : IVec (SK1 k) 32 :=
  broadcastInDim (SK1 k) ![0, 1, 2] hk.column (broadcastInDim (SK k) ![0, 1, 2] hk.batch
    (wrapped Gen.bcast_S_S4x1x1 4#32 (broadcastInDim S4x1x1 ![0] Gen.bcast_S4_S4x1x1_0 (iotaInDim S4 32 0))))
/-- its position in the sequence, -/
def positionWords (hk : Shapes k) : IVec (SK1 k) 32 :=
  broadcastInDim (SK1 k) ![0, 1, 2] hk.column (broadcastInDim (SK k) ![0, 1, 2] hk.position
    (wrapped Gen.bcast_S_S1x2048x1 2048#32 (broadcastInDim S1x2048x1 ![1] Gen.bcast_S2048_S1x2048x1_1 (iotaInDim S2048 32 0))))
/-- and its place in the row. -/
def entryWords (hk : Shapes k) (e : IVec (SK k) 32) : IVec (SK1 k) 32 :=
  broadcastInDim (SK1 k) ![0, 1, 2] hk.column (wrapped hk.scalar 512#32 e)

/-- The three columns side by side. -/
def table (hk : Shapes k) (e : IVec (SK k) 32) : IVec (SK3 k) 32 :=
  concatenate (SK3 k) 3 [⟨SK1 k, batchWords hk⟩, ⟨SK1 k, positionWords hk⟩, ⟨SK1 k, entryWords hk e⟩] hk.join

/-- A small number's word read as a natural number. -/
theorem toNat_small {n : ℕ} (h : n < 2048) : (BitVec.ofNat 32 n).toNat = n := by
  rw [BitVec.toNat_ofNat]; omega

/-- A small number's word read signed. -/
theorem toInt_small {n : ℕ} (h : n < 2048) : (BitVec.ofNat 32 n).toInt = n := by
  rw [BitVec.toInt_eq_toNat_of_lt (by rw [toNat_small h]; omega), toNat_small h]

/-- The batch column. -/
theorem batchWords_apply (hk : Shapes k) (t : Fin 4) (s : Fin 2048) (r : Fin k) :
    batchWords hk (ix4 t s r (0 : Fin 1)) = BitVec.ofNat 32 t.val := by
  have hr := r.isLt
  unfold batchWords
  rw [broadcastInDim_apply _ _ _ _ (ix3 t s r) (by
    intro a; fin_cases a
    · rfl
    · rfl
    · show r.val = if k = 1 then 0 else r.val
      split <;> omega)]
  rw [broadcastInDim_apply _ _ _ _ (ix3 t (0 : Fin 1) (0 : Fin 1)) (by intro a; fin_cases a <;> rfl)]
  have e : broadcastInDim S4x1x1 ![0] Gen.bcast_S4_S4x1x1_0 (iotaInDim S4 32 0) (ix3 t (0 : Fin 1) (0 : Fin 1)) = BitVec.ofNat 32 t.val := by
    rw [broadcastInDim_apply _ _ _ _ (ix1 t) (by intro a; fin_cases a; rfl)]
    rfl
  rw [wrapped_apply _ _ _ _ (by rw [e, toNat_small (by omega)]; omega), e]

/-- The position column. -/
theorem positionWords_apply (hk : Shapes k) (t : Fin 4) (s : Fin 2048) (r : Fin k) :
    positionWords hk (ix4 t s r (0 : Fin 1)) = BitVec.ofNat 32 s.val := by
  have hr := r.isLt
  unfold positionWords
  rw [broadcastInDim_apply _ _ _ _ (ix3 t s r) (by
    intro a; fin_cases a
    · rfl
    · rfl
    · show r.val = if k = 1 then 0 else r.val
      split <;> omega)]
  rw [broadcastInDim_apply _ _ _ _ (ix3 (0 : Fin 1) s (0 : Fin 1)) (by intro a; fin_cases a <;> rfl)]
  have e : broadcastInDim S1x2048x1 ![1] Gen.bcast_S2048_S1x2048x1_1 (iotaInDim S2048 32 0) (ix3 (0 : Fin 1) s (0 : Fin 1)) = BitVec.ofNat 32 s.val := by
    rw [broadcastInDim_apply _ _ _ _ (ix1 s) (by intro a; fin_cases a; rfl)]
    rfl
  rw [wrapped_apply _ _ _ _ (by rw [e, toNat_small (by omega)]; omega), e]

/-- The entry column, where the entry's word isn't negative. -/
theorem entryWords_apply (hk : Shapes k) (e : IVec (SK k) 32) (t : Fin 4) (s : Fin 2048) (r : Fin k) (he : (e (ix3 t s r)).toNat < 2 ^ 31) :
    entryWords hk e (ix4 t s r (0 : Fin 1)) = e (ix3 t s r) := by
  have hr := r.isLt
  unfold entryWords
  rw [broadcastInDim_apply _ _ _ _ (ix3 t s r) (by
    intro a; fin_cases a
    · rfl
    · rfl
    · show r.val = if k = 1 then 0 else r.val
      split <;> omega)]
  exact wrapped_apply _ _ _ _ he

/-- The table's word `q` of entry `(t, s, r)` is column `q`'s. -/
theorem table_apply (hk : Shapes k) (e : IVec (SK k) 32) (t : Fin 4) (s : Fin 2048) (r : Fin k) (q : Fin 3) :
    table hk e (ix4 t s r q) = (![batchWords hk, positionWords hk, entryWords hk e] : Fin 3 → IVec (SK1 k) 32) q (ix4 t s r (0 : Fin 1)) := by
  have key := concatenate_ofFn_unit_apply (t := SK3 k) (s₁ := SK1 k) 3 (N := 3)
    (![batchWords hk, positionWords hk, entryWords hk e] : Fin 3 → IVec (SK1 k) 32) hk.join rfl rfl (ix4 t s r q) q rfl
    (ix4 t s r (0 : Fin 1)) (fun b hb => by
      fin_cases b
      · rfl
      · rfl
      · rfl
      · exact absurd rfl hb)
  exact key

/-- The array with the chosen entries of every row set to the values given and the others 0. -/
def placed (hk : Shapes k) (e : IVec (SK k) 32) (v : (SK k).Idx → EReal) : S4x2048x512.Idx → EReal :=
  Host.scatter (dims hk) (fun _ b => b)
    (broadcastInDim S4x2048x512 ![] Gen.bcast_S_S4x2048x512 (constant (F := Ideal) S_ .f32 0x00000000#32)) (table hk e) v

/-- Update `(t', s', r)` of that scatter lands at `(t, s, j)` exactly when it is one of that row's and its entry is `j`. -/
theorem placed_lands (hk : Shapes k) (e : IVec (SK k) 32) (p : Fin 4 → Fin 2048 → Fin k → Fin 512)
    (he : ∀ t s r, e (ix3 t s r) = BitVec.ofNat 32 (p t s r).val) (t t' : Fin 4) (s s' : Fin 2048) (r : Fin k) (j : Fin 512) :
    (dims hk).resultIdx? (ix3 t' s' r) (table hk e) = some (ix3 t s j) ↔ t' = t ∧ s' = s ∧ p t' s' r = j := by
  have hp := (p t' s' r).isLt
  have h0 : table hk e (ix4 t' s' r (0 : Fin 3)) = BitVec.ofNat 32 t'.val := (table_apply hk e t' s' r 0).trans (batchWords_apply hk t' s' r)
  have h1 : table hk e (ix4 t' s' r (1 : Fin 3)) = BitVec.ofNat 32 s'.val := (table_apply hk e t' s' r 1).trans (positionWords_apply hk t' s' r)
  have h2 : table hk e (ix4 t' s' r (2 : Fin 3)) = BitVec.ofNat 32 (p t' s' r).val :=
    (table_apply hk e t' s' r 2).trans ((entryWords_apply hk e t' s' r (by rw [he, toNat_small (by omega)]; omega)).trans (he t' s' r))
  rw [lands, h0, h1, h2, toInt_small (by omega), toInt_small (by omega), toInt_small (by omega), Fin.ext_iff, Fin.ext_iff, Fin.ext_iff]
  omega

/-- Where the values of a row are those of `f` at its chosen entries: `f` at a chosen entry, 0 elsewhere. -/
theorem placed_apply (hk : Shapes k) (e : IVec (SK k) 32) (v : (SK k).Idx → EReal) (p : Fin 4 → Fin 2048 → Fin k → Fin 512)
    (he : ∀ t s r, e (ix3 t s r) = BitVec.ofNat 32 (p t s r).val) (t : Fin 4) (s : Fin 2048) (f : Fin 512 → EReal)
    (hv : ∀ r, v (ix3 t s r) = f (p t s r)) (j : Fin 512) :
    placed hk e v (ix3 t s j) = if ∃ r, p t s r = j then f j else 0 := by
  have out : ∀ i : (SK k).Idx, (dims hk).resultIdx? i (table hk e) = some (ix3 t s j) → i = ix3 t s (i 2) ∧ p t s (i 2) = j := by
    intro i hi
    obtain ⟨t', s', r, rfl⟩ : ∃ t' s' r, i = ix3 t' s' r := ⟨i 0, i 1, i 2, by funext a; fin_cases a <;> rfl⟩
    obtain ⟨rfl, rfl, h⟩ := (placed_lands hk e p he t t' s s' r j).1 hi
    exact ⟨rfl, h⟩
  unfold placed
  split
  · next h =>
    obtain ⟨r, hr⟩ := h
    refine Routing.scatter_set_hit (dims hk) _ _ _ _ (f j) (fun i hi => ?_) (ix3 t s r) ((placed_lands hk e p he t t s s r j).2 ⟨rfl, rfl, hr⟩)
    obtain ⟨h1, h2⟩ := out i hi
    rw [h1]
    exact (hv _).trans (congrArg f h2)
  · next h =>
    refine (Routing.scatter_set_miss (dims hk) _ _ _ _ fun i hi => h ⟨i 2, (out i hi).2⟩).trans Cert.Router.lit_zero

end Cert.ReferenceIdeal.Router
-- ==== Proof.Reference.Pool.lean ====
/- One pool of the reference as a function of its logits — the softmax of every row, its k greatest, those set into
   zeros, the softmax taken away and added back —, and its value at an entry: the routed row by sorting. -/
module

public import proofs.«01_k».proof.Proof.Row.Softmax
public import proofs.«01_k».proof.Proof.Reference.TopK
public import proofs.«01_k».proof.Proof.Reference.Places

@[expose] public section

noncomputable section

namespace Cert.ReferenceIdeal.Router

open Idealize.ShloMosaic Idealize.ShloMosaic.ValueIdx Cert.ReferenceIdeal Cert.Router

/-- A row of a three-axis array. -/
def row (x : S4x2048x512.Idx → EReal) (t : Fin 4) (s : Fin 2048) : Fin 512 → EReal := fun j => x (ix3 t s j)

/-- One number per token along every row. -/
def along (v : FVec Ideal S4x2048 .f32) : FVec Ideal S4x2048x512 .f32 :=
  broadcastInDim S4x2048x512 ![0, 1, 2] Gen.bcast_S4x2048x1_S4x2048x512_0_1_2 (broadcastInDim S4x2048x1 ![0, 1] Gen.bcast_S4x2048_S4x2048x1_0_1 v)

/-- Each row's greatest entry. -/
def top (l : FVec Ideal S4x2048x512 .f32) : FVec Ideal S4x2048 .f32 :=
  maximumf (broadcastInDim S4x2048 ![] Gen.bcast_S_S4x2048 (constant S_ .f32 0xFF800000#32))
    (Host.reduce FloatOps.maximumf l (constant S_ .f32 0xFF800000#32) Gen.reducesTo_S4x2048x512_S4x2048_d2 Gen.h_S_)

/-- The exponentials of every row. -/
def exps (l : FVec Ideal S4x2048x512 .f32) : FVec Ideal S4x2048x512 .f32 := Host.exp (subf l (along (top l)))

/-- Each row's total of an array. -/
def total (v : FVec Ideal S4x2048x512 .f32) : FVec Ideal S4x2048 .f32 :=
  Host.reduceAdd v (constant S_ .f32 0x00000000#32) Gen.reducesTo_S4x2048x512_S4x2048_d2 Gen.h_S_

/-- The softmax of every row. -/
def soft (l : FVec Ideal S4x2048x512 .f32) : FVec Ideal S4x2048x512 .f32 := Host.divf (exps l) (along (total (exps l)))

/-- The `k` greatest of every row. -/
def best {k : ℕ} (hk : Shapes k) (v : FVec Ideal S4x2048x512 .f32) : FVec Ideal (SK k) .f32 × IVec (SK k) 32 :=
  Host.topK (SK k) 2 (FloatOps.cmpfTotal .gt) v hk.fits

/-- The pool's part of the result. -/
def poolV {k : ℕ} (hk : Shapes k) (l : FVec Ideal S4x2048x512 .f32) : FVec Ideal S4x2048x512 .f32 :=
  addf (subf (placed hk (best hk (soft l)).2 (best hk (soft l)).1) (soft l)) (soft l)

/-! ## Their entries -/

/-- A number per token along every row, at an entry. -/
theorem along_apply (v : FVec Ideal S4x2048 .f32) (t : Fin 4) (s : Fin 2048) (j : Fin 512) : along v (ix3 t s j) = v (ix2 t s) := by
  unfold along
  rw [broadcastInDim_apply _ _ _ _ (ix3 t s (0 : Fin 1)) (by intro a; fin_cases a <;> rfl),
    broadcastInDim_apply _ _ _ _ (ix2 t s) (by intro a; fin_cases a <;> rfl)]

/-- The shapes of a reduction of the last axis. -/
theorem reduces_last : S4x2048x512.Reduces [2] S4x2048 := by decide

/-- The entry a reduction of the last axis reads. -/
theorem lift_last (t : Fin 4) (s : Fin 2048) (j : Fin 512) : reduces_last.lift (ix2 t s) j = ix3 t s j := by
  funext a
  fin_cases a <;> rfl

/-- The fold of a maximum that starts at −∞. -/
theorem fold_max (x : FVec Ideal S4x2048x512 .f32) (init : FVec Ideal S_ .f32) (h0 : init (Shape.Idx.first Gen.h_S_) = (⊥ : EReal)) (t : Fin 4) (s : Fin 2048) :
    Host.reduce FloatOps.maximumf x init Gen.reducesTo_S4x2048x512_S4x2048_d2 Gen.h_S_ (ix2 t s) = rowMax (row x t s) := by
  refine (Host.reduce_eq_fold_single FloatOps.maximumf x init Gen.reducesTo_S4x2048x512_S4x2048_d2 reduces_last Gen.h_S_ (ix2 t s)).trans ?_
  have hf : (x ∘ reduces_last.lift (ix2 t s)) = row x t s := funext fun j => congrArg x (lift_last t s j)
  rw [hf, h0]
  unfold rowMax
  rfl

/-- The maximum of two arrays at an index. -/
theorem max_at (a b : FVec Ideal S4x2048 .f32) (i : S4x2048.Idx) : maximumf a b i = max (a i : EReal) (b i) := rfl

/-- The greatest entry of row `(t, s)`. -/
theorem top_apply (l : FVec Ideal S4x2048x512 .f32) (t : Fin 4) (s : Fin 2048) : top l (ix2 t s) = rowMax (row l t s) := by
  unfold top
  rw [max_at, fold_max _ _ lit_bot, broadcastInDim_apply _ _ _ _ (fun a => a.elim0) (fun a => a.elim0)]
  refine (congrArg (fun b => max b (rowMax (row l t s))) (show constant (F := Ideal) S_ .f32 0xFF800000#32 _ = (⊥ : EReal) from lit_bot)).trans ?_
  exact max_eq_right bot_le

/-- The exponentials of row `(t, s)`. -/
theorem exps_apply (l : FVec Ideal S4x2048x512 .f32) (t : Fin 4) (s : Fin 2048) (j : Fin 512) : exps l (ix3 t s j) = ex (row l t s) j := by
  show Ideal.exp (l (ix3 t s j) - along (top l) (ix3 t s j)) = _
  rw [along_apply, top_apply]
  rfl

/-- The total of row `(t, s)`. -/
theorem total_apply (l : FVec Ideal S4x2048x512 .f32) (t : Fin 4) (s : Fin 2048) : total (exps l) (ix2 t s) = tot (row l t s) := by
  refine (Ideal.hostReduceAdd_single Gen.reducesTo_S4x2048x512_S4x2048_d2 reduces_last (exps l) _ (ix2 t s)).trans ?_
  have h0 : constant (F := Ideal) S_ .f32 0x00000000#32 (Shape.Idx.first Gen.h_S_) = (0 : EReal) := lit_zero
  refine (congrArg₂ (· + ·) h0 (Finset.sum_congr rfl fun j _ => ?_)).trans (zero_add _)
  exact (congrArg (exps l) (lift_last t s j)).trans (exps_apply l t s j)

/-- The softmax of row `(t, s)`. -/
theorem soft_apply (l : FVec Ideal S4x2048x512 .f32) (t : Fin 4) (s : Fin 2048) (j : Fin 512) : soft l (ix3 t s j) = pref (row l t s) j := by
  show Ideal.div (exps l (ix3 t s j)) (along (total (exps l)) (ix3 t s j)) = _
  rw [along_apply, total_apply, exps_apply]
  rfl

/-- The softmax's row. -/
theorem row_soft (l : FVec Ideal S4x2048x512 .f32) (t : Fin 4) (s : Fin 2048) : row (soft l) t s = pref (row l t s) :=
  funext fun j => soft_apply l t s j

/-- The pool's part at an entry: the routed row. -/
theorem poolV_apply {k : ℕ} (hk : Shapes k) (hk' : k < 512) (l : FVec Ideal S4x2048x512 .f32) (t : Fin 4) (s : Fin 2048) (j : Fin 512) :
    poolV hk l (ix3 t s j) = routed k hk' (row l t s) j := by
  have hp := placed_apply hk (best hk (soft l)).2 (best hk (soft l)).1
    (fun t s r => order (row (soft l) t s) (r.castLE hk.le))
    (fun t s r => (topK_apply (soft l) hk.fits hk.le t s r).2) t s (row (soft l) t s)
    (fun r => (topK_apply (soft l) hk.fits hk.le t s r).1) j
  show placed hk (best hk (soft l)).2 (best hk (soft l)).1 (ix3 t s j) - soft l (ix3 t s j) + soft l (ix3 t s j) = _
  rw [hp, soft_apply]
  simp only [row_soft]
  unfold routed
  congr 2
  congr!

end Cert.ReferenceIdeal.Router
-- ==== Proof.Reference.Logits.lean ====
/- The reference's logits at an entry: the projection and bias at a token and column, a neuron's embedding over its
   bounded norm, and each pool's product of the two. -/
module

public import proofs.«01_k».proof.Proof.Row.Route
public import proofs.«01_k».proof.Proof.Reference.Pool
public import proofs.«01_k».proof.Proof.Gen.ReferenceIdeal.Read

@[expose] public section

noncomputable section

namespace Cert.ReferenceIdeal.Router

open Idealize.ShloMosaic Idealize.ShloMosaic.ValueIdx Cert.ReferenceIdeal Cert.ReferenceIdeal.Read Cert.Router

variable (X : S4x2048x4096.Idx → EReal) (W : S4096x384.Idx → EReal) (B : S384.Idx → EReal) (E : S5120x64.Idx → EReal)

/-- A token's logits in pool `i`, from the arrays. -/
abbrev logitsAt (t : Fin 4) (s : Fin 2048) (i : Fin 6) : Fin 512 → EReal :=
  poolLogits (fun k => X (ix3 t s k)) (fun k c => W (ix2 k c)) (fun c => B (ix1 c)) (fun n d => E (ix2 (n.castLE (by omega) : Fin 5120) d)) i

/-- The projection of token `(t, s)` at column `c`. -/
theorem proj_apply (t : Fin 4) (s : Fin 2048) (c : Fin 384) :
    val_main_v3 (F := Ideal) X W B (ix3 t s c) = proj (fun k => X (ix3 t s k)) (fun k => W (ix2 k c)) (B (ix1 c)) := by
  rw [val_main_v3_apply, val_main_v0_apply, val_main_v2_apply, val_main_v1_apply]
  have hb : idx_main_v1 (idx_main_v2 (ix3 t s c)) = ix1 c := funext fun a => by fin_cases a; rfl
  have hl : ∀ k, lidx_main_v0 (ix3 t s c) k = ix3 t s k := fun k => funext fun a => by fin_cases a <;> rfl
  have hr : ∀ k, ridx_main_v0 (ix3 t s c) k = ix2 k c := fun k => funext fun a => by fin_cases a <;> rfl
  rw [hb]
  simp only [hl, hr]
  rfl

/-- Neuron `n`'s embedding as the reference reads it. -/
theorem emb_apply (n : Fin 3072) (d : Fin 64) :
    val_main_v10 (F := Ideal) E (ix2 n d) = E (ix2 (n.castLE (by omega) : Fin 5120) d) := by
  rw [val_main_v10_apply]
  exact congrArg E (funext fun a => by fin_cases a <;> rfl)

/-- Its norm, kept away from 0. -/
theorem norm_apply (n : Fin 3072) (u : Fin 1) :
    val_main_v13 (F := Ideal) E (ix2 n u) = norm (fun d => E (ix2 (n.castLE (by omega) : Fin 5120) d)) := by
  rw [val_main_v13_apply, val_main_v11_apply, val_main_call0_v2_apply, val_main_call0_v1_apply, val_main_v12_apply]
  have hi : idx_main_call0_v2 (ix2 n u) = ix1 n := funext fun a => by fin_cases a; rfl
  have hk : ∀ k, idx_main_call0_v1 (ix1 n) k = ix2 n k := fun k => funext fun a => by fin_cases a <;> rfl
  have h0 : val_main_call0_cst (F := Ideal) (Shape.Idx.first Gen.h_S_) = (0 : EReal) := lit_zero
  rw [hi]
  simp only [hk, val_main_call0_v0_apply, emb_apply]
  refine congrArg (fun z => max (Ideal.sqrt z) (FloatOps.ofBits .f32 0x2B8CBCCC#32 : Ideal .f32)) ?_
  exact (congrArg (· + _) h0).trans (zero_add _)

/-- The normalised embedding. -/
theorem unit_apply (n : Fin 3072) (d : Fin 64) :
    val_main_v15 (F := Ideal) E (ix2 n d)
      = Ideal.div (E (ix2 (n.castLE (by omega) : Fin 5120) d)) (norm (fun d => E (ix2 (n.castLE (by omega) : Fin 5120) d))) := by
  have hi : idx_main_v14 (ix2 n d) = ix2 n (0 : Fin 1) := funext fun a => by fin_cases a <;> rfl
  rw [val_main_v15_apply, val_main_v14_apply, hi, emb_apply, norm_apply]
  rfl

/-- A sum over the 64 columns whose factors are the token's projections and a neuron's normalised embedding is the logit. -/
theorem sum_eq (t : Fin 4) (s : Fin 2048) (i : Fin 6) (j : Fin 512) (q e : Fin 64 → EReal)
    (hq : ∀ d, q d = val_main_v3 (F := Ideal) X W B (ix3 t s (col i d))) (he : ∀ d, e d = val_main_v15 (F := Ideal) E (ix2 (neuron i j) d)) :
    ∑ d, q d * e d = logitsAt X W B E t s i j := by
  unfold logitsAt poolLogits logit
  refine Finset.sum_congr rfl fun d _ => ?_
  rw [hq, he, proj_apply, unit_apply]

/-- The logits of pool 0. -/
theorem logits0_apply (t : Fin 4) (s : Fin 2048) (j : Fin 512) :
    val_main_v17 (F := Ideal) X W B E (ix3 t s j) = logitsAt X W B E t s 0 j := by
  rw [val_main_v17_apply]
  refine sum_eq X W B E t s 0 j _ _ (fun d => ?_) (fun d => ?_)
  · rw [val_main_v4_apply]
    exact congrArg (val_main_v3 (F := Ideal) X W B) (funext fun a => by
      fin_cases a
      · rfl
      · rfl
      · exact Fin.ext (show d.val = 64 * 0 + d.val by omega))
  · rw [val_main_v16_apply]
    exact congrArg (val_main_v15 (F := Ideal) E) (funext fun a => by
      fin_cases a
      · exact Fin.ext (show j.val = 512 * 0 + j.val by omega)
      · rfl)

/-- The logits of pool 1. -/
theorem logits1_apply (t : Fin 4) (s : Fin 2048) (j : Fin 512) :
    val_main_v59 (F := Ideal) X W B E (ix3 t s j) = logitsAt X W B E t s 1 j := by
  rw [val_main_v59_apply]
  refine sum_eq X W B E t s 1 j _ _ (fun d => ?_) (fun d => ?_)
  · rw [val_main_v5_apply]
    exact congrArg (val_main_v3 (F := Ideal) X W B) (funext fun a => by
      fin_cases a
      · rfl
      · rfl
      · exact Fin.ext (show 64 + d.val = 64 * 1 + d.val by omega))
  · rw [val_main_v58_apply]
    exact congrArg (val_main_v15 (F := Ideal) E) (funext fun a => by
      fin_cases a
      · exact Fin.ext (show 512 + j.val = 512 * 1 + j.val by omega)
      · rfl)

/-- The logits of pool 2. -/
theorem logits2_apply (t : Fin 4) (s : Fin 2048) (j : Fin 512) :
    val_main_v101 (F := Ideal) X W B E (ix3 t s j) = logitsAt X W B E t s 2 j := by
  rw [val_main_v101_apply]
  refine sum_eq X W B E t s 2 j _ _ (fun d => ?_) (fun d => ?_)
  · rw [val_main_v6_apply]
    exact congrArg (val_main_v3 (F := Ideal) X W B) (funext fun a => by
      fin_cases a
      · rfl
      · rfl
      · exact Fin.ext (show 128 + d.val = 64 * 2 + d.val by omega))
  · rw [val_main_v100_apply]
    exact congrArg (val_main_v15 (F := Ideal) E) (funext fun a => by
      fin_cases a
      · exact Fin.ext (show 1024 + j.val = 512 * 2 + j.val by omega)
      · rfl)

/-- The logits of pool 3. -/
theorem logits3_apply (t : Fin 4) (s : Fin 2048) (j : Fin 512) :
    val_main_v143 (F := Ideal) X W B E (ix3 t s j) = logitsAt X W B E t s 3 j := by
  rw [val_main_v143_apply]
  refine sum_eq X W B E t s 3 j _ _ (fun d => ?_) (fun d => ?_)
  · rw [val_main_v7_apply]
    exact congrArg (val_main_v3 (F := Ideal) X W B) (funext fun a => by
      fin_cases a
      · rfl
      · rfl
      · exact Fin.ext (show 192 + d.val = 64 * 3 + d.val by omega))
  · rw [val_main_v142_apply]
    exact congrArg (val_main_v15 (F := Ideal) E) (funext fun a => by
      fin_cases a
      · exact Fin.ext (show 1536 + j.val = 512 * 3 + j.val by omega)
      · rfl)

/-- The logits of pool 4. -/
theorem logits4_apply (t : Fin 4) (s : Fin 2048) (j : Fin 512) :
    val_main_v185 (F := Ideal) X W B E (ix3 t s j) = logitsAt X W B E t s 4 j := by
  rw [val_main_v185_apply]
  refine sum_eq X W B E t s 4 j _ _ (fun d => ?_) (fun d => ?_)
  · rw [val_main_v8_apply]
    exact congrArg (val_main_v3 (F := Ideal) X W B) (funext fun a => by
      fin_cases a
      · rfl
      · rfl
      · exact Fin.ext (show 256 + d.val = 64 * 4 + d.val by omega))
  · rw [val_main_v184_apply]
    exact congrArg (val_main_v15 (F := Ideal) E) (funext fun a => by
      fin_cases a
      · exact Fin.ext (show 2048 + j.val = 512 * 4 + j.val by omega)
      · rfl)

/-- The logits of pool 5. -/
theorem logits5_apply (t : Fin 4) (s : Fin 2048) (j : Fin 512) :
    val_main_v227 (F := Ideal) X W B E (ix3 t s j) = logitsAt X W B E t s 5 j := by
  rw [val_main_v227_apply]
  refine sum_eq X W B E t s 5 j _ _ (fun d => ?_) (fun d => ?_)
  · rw [val_main_v9_apply]
    exact congrArg (val_main_v3 (F := Ideal) X W B) (funext fun a => by
      fin_cases a
      · rfl
      · rfl
      · exact Fin.ext (show 320 + d.val = 64 * 5 + d.val by omega))
  · rw [val_main_v226_apply]
    exact congrArg (val_main_v15 (F := Ideal) E) (funext fun a => by
      fin_cases a
      · exact Fin.ext (show 2560 + j.val = 512 * 5 + j.val by omega)
      · rfl)

end Cert.ReferenceIdeal.Router
-- ==== Proof.Reference.Result.lean ====
/- The reference's result: each pool's part is the routed row of its logits, the six side by side; where the logits
   have no ties it is the routing weights. -/
module

public import proofs.«01_k».proof.Proof.Reference.Logits

@[expose] public section

noncomputable section

namespace Cert.ReferenceIdeal.Router

open Idealize.ShloMosaic Idealize.ShloMosaic.ValueIdx Cert.ReferenceIdeal Cert.ReferenceIdeal.Read Cert.Router

variable (X : S4x2048x4096.Idx → EReal) (W : S4096x384.Idx → EReal) (B : S384.Idx → EReal) (E : S5120x64.Idx → EReal)

/-- The shapes at eight entries per token, -/
theorem shapes8 : Shapes 8 :=
  ⟨Gen.bcast_S_S4x2048x8, Gen.bcast_S4x1x1_S4x2048x8_0_1_2, Gen.bcast_S1x2048x1_S4x2048x8_0_1_2, Gen.bcast_S4x2048x8_S4x2048x8x1_0_1_2,
    Gen.concatenates_S4x2048x8x1_S4x2048x8x1_S4x2048x8x1_S4x2048x8x3_d3, Gen.sliceFits_S4x2048x512_S4x2048x8,
    Gen.scatter_S4x2048x512_S4x2048x8x3_S4x2048x8_n_012_012_3_wf, by decide⟩

/-- and at three. -/
theorem shapes3 : Shapes 3 :=
  ⟨Gen.bcast_S_S4x2048x3, Gen.bcast_S4x1x1_S4x2048x3_0_1_2, Gen.bcast_S1x2048x1_S4x2048x3_0_1_2, Gen.bcast_S4x2048x3_S4x2048x3x1_0_1_2,
    Gen.concatenates_S4x2048x3x1_S4x2048x3x1_S4x2048x3x1_S4x2048x3x3_d3, Gen.sliceFits_S4x2048x512_S4x2048x3,
    Gen.scatter_S4x2048x512_S4x2048x3x3_S4x2048x3_n_012_012_3_wf, by decide⟩

/-- How many neurons of each pool a token is routed to. -/
def counts : Fin 6 → ℕ := ![8, 8, 3, 8, 8, 3]

/-- Fewer than the pool holds. -/
theorem counts_lt (i : Fin 6) : counts i < 512 := by fin_cases i <;> decide

/-- One more than the kernel's rounds of masking. -/
theorem turns_succ (i : Fin 6) : turns i + 1 = counts i := by fin_cases i <;> rfl

/-- Pool 0's part of the result. -/
theorem part0_eq : val_main_v57 (F := Ideal) X W B E = poolV shapes8 (val_main_v17 (F := Ideal) X W B E) := rfl

/-- Its entries. -/
theorem part0_apply (t : Fin 4) (s : Fin 2048) (j : Fin 512) :
    val_main_v57 (F := Ideal) X W B E (ix3 t s j) = routed (counts 0) (counts_lt 0) (logitsAt X W B E t s 0) j := by
  rw [part0_eq]
  refine (poolV_apply shapes8 (by decide) _ t s j).trans ?_
  have hr : row (val_main_v17 (F := Ideal) X W B E) t s = logitsAt X W B E t s 0 := funext fun j => logits0_apply X W B E t s j
  rw [hr]
  rfl

/-- Pool 1's part of the result. -/
theorem part1_eq : val_main_v99 (F := Ideal) X W B E = poolV shapes8 (val_main_v59 (F := Ideal) X W B E) := rfl

/-- Its entries. -/
theorem part1_apply (t : Fin 4) (s : Fin 2048) (j : Fin 512) :
    val_main_v99 (F := Ideal) X W B E (ix3 t s j) = routed (counts 1) (counts_lt 1) (logitsAt X W B E t s 1) j := by
  rw [part1_eq]
  refine (poolV_apply shapes8 (by decide) _ t s j).trans ?_
  have hr : row (val_main_v59 (F := Ideal) X W B E) t s = logitsAt X W B E t s 1 := funext fun j => logits1_apply X W B E t s j
  rw [hr]
  rfl

/-- Pool 2's part of the result. -/
theorem part2_eq : val_main_v141 (F := Ideal) X W B E = poolV shapes3 (val_main_v101 (F := Ideal) X W B E) := rfl

/-- Its entries. -/
theorem part2_apply (t : Fin 4) (s : Fin 2048) (j : Fin 512) :
    val_main_v141 (F := Ideal) X W B E (ix3 t s j) = routed (counts 2) (counts_lt 2) (logitsAt X W B E t s 2) j := by
  rw [part2_eq]
  refine (poolV_apply shapes3 (by decide) _ t s j).trans ?_
  have hr : row (val_main_v101 (F := Ideal) X W B E) t s = logitsAt X W B E t s 2 := funext fun j => logits2_apply X W B E t s j
  rw [hr]
  rfl

/-- Pool 3's part of the result. -/
theorem part3_eq : val_main_v183 (F := Ideal) X W B E = poolV shapes8 (val_main_v143 (F := Ideal) X W B E) := rfl

/-- Its entries. -/
theorem part3_apply (t : Fin 4) (s : Fin 2048) (j : Fin 512) :
    val_main_v183 (F := Ideal) X W B E (ix3 t s j) = routed (counts 3) (counts_lt 3) (logitsAt X W B E t s 3) j := by
  rw [part3_eq]
  refine (poolV_apply shapes8 (by decide) _ t s j).trans ?_
  have hr : row (val_main_v143 (F := Ideal) X W B E) t s = logitsAt X W B E t s 3 := funext fun j => logits3_apply X W B E t s j
  rw [hr]
  rfl

/-- Pool 4's part of the result. -/
theorem part4_eq : val_main_v225 (F := Ideal) X W B E = poolV shapes8 (val_main_v185 (F := Ideal) X W B E) := rfl

/-- Its entries. -/
theorem part4_apply (t : Fin 4) (s : Fin 2048) (j : Fin 512) :
    val_main_v225 (F := Ideal) X W B E (ix3 t s j) = routed (counts 4) (counts_lt 4) (logitsAt X W B E t s 4) j := by
  rw [part4_eq]
  refine (poolV_apply shapes8 (by decide) _ t s j).trans ?_
  have hr : row (val_main_v185 (F := Ideal) X W B E) t s = logitsAt X W B E t s 4 := funext fun j => logits4_apply X W B E t s j
  rw [hr]
  rfl

/-- Pool 5's part of the result. -/
theorem part5_eq : val_main_v267 (F := Ideal) X W B E = poolV shapes3 (val_main_v227 (F := Ideal) X W B E) := rfl

/-- Its entries. -/
theorem part5_apply (t : Fin 4) (s : Fin 2048) (j : Fin 512) :
    val_main_v267 (F := Ideal) X W B E (ix3 t s j) = routed (counts 5) (counts_lt 5) (logitsAt X W B E t s 5) j := by
  rw [part5_eq]
  refine (poolV_apply shapes3 (by decide) _ t s j).trans ?_
  have hr : row (val_main_v227 (F := Ideal) X W B E) t s = logitsAt X W B E t s 5 := funext fun j => logits5_apply X W B E t s j
  rw [hr]
  rfl

/-- The six parts. -/
def parts : Fin 6 → S4x2048x512.Idx → EReal :=
  ![val_main_v57 (F := Ideal) X W B E, val_main_v99 (F := Ideal) X W B E, val_main_v141 (F := Ideal) X W B E,
    val_main_v183 (F := Ideal) X W B E, val_main_v225 (F := Ideal) X W B E, val_main_v267 (F := Ideal) X W B E]

/-- A part's entries. -/
theorem parts_apply (i : Fin 6) (t : Fin 4) (s : Fin 2048) (j : Fin 512) :
    parts X W B E i (ix3 t s j) = routed (counts i) (counts_lt i) (logitsAt X W B E t s i) j := by
  have hi : i = 0 ∨ i = 1 ∨ i = 2 ∨ i = 3 ∨ i = 4 ∨ i = 5 := by omega
  rcases hi with rfl | rfl | rfl | rfl | rfl | rfl
  · exact (congrFun (show parts X W B E 0 = val_main_v57 (F := Ideal) X W B E from rfl) _).trans (part0_apply X W B E t s j)
  · exact (congrFun (show parts X W B E 1 = val_main_v99 (F := Ideal) X W B E from rfl) _).trans (part1_apply X W B E t s j)
  · exact (congrFun (show parts X W B E 2 = val_main_v141 (F := Ideal) X W B E from rfl) _).trans (part2_apply X W B E t s j)
  · exact (congrFun (show parts X W B E 3 = val_main_v183 (F := Ideal) X W B E from rfl) _).trans (part3_apply X W B E t s j)
  · exact (congrFun (show parts X W B E 4 = val_main_v225 (F := Ideal) X W B E from rfl) _).trans (part4_apply X W B E t s j)
  · exact (congrFun (show parts X W B E 5 = val_main_v267 (F := Ideal) X W B E from rfl) _).trans (part5_apply X W B E t s j)

/-- Six arrays side by side, at a neuron: its pool's array at its place. -/
theorem join_apply (p0 p1 p2 p3 p4 p5 : S4x2048x512.Idx → EReal) (t : Fin 4) (s : Fin 2048) (n : Fin 3072) :
    concatenate S4x2048x3072 2 [⟨S4x2048x512, p0⟩, ⟨S4x2048x512, p1⟩, ⟨S4x2048x512, p2⟩, ⟨S4x2048x512, p3⟩, ⟨S4x2048x512, p4⟩, ⟨S4x2048x512, p5⟩]
        Gen.concatenates_S4x2048x512_S4x2048x512_S4x2048x512_S4x2048x512_S4x2048x512_S4x2048x512_S4x2048x3072_d2 (ix3 t s n)
      = (![p0, p1, p2, p3, p4, p5] : Fin 6 → S4x2048x512.Idx → EReal) (poolOf n) (ix3 t s (placeOf n)) :=
  concatenate_ofFn_apply (t := S4x2048x3072) (s₁ := S4x2048x512) 2 (N := 6) (![p0, p1, p2, p3, p4, p5] : Fin 6 → S4x2048x512.Idx → EReal)
    Gen.concatenates_S4x2048x512_S4x2048x512_S4x2048x512_S4x2048x512_S4x2048x512_S4x2048x512_S4x2048x3072_d2 rfl 512 rfl
    (ix3 t s n) (poolOf n) rfl (ix3 t s (placeOf n)) rfl (fun b hb => by
      fin_cases b
      · rfl
      · rfl
      · exact absurd rfl hb)

/-- The result at a neuron is its pool's part at its place. -/
theorem joined_apply (t : Fin 4) (s : Fin 2048) (n : Fin 3072) :
    val_main_v268 (F := Ideal) X W B E (ix3 t s n) = parts X W B E (poolOf n) (ix3 t s (placeOf n)) := by
  unfold val_main_v268 parts
  exact join_apply _ _ _ _ _ _ t s n

/-- Where every token's logits have no ties among the greatest of each pool, the reference's result is the routing weights. -/
theorem result_eq (hs : ∀ t s i, Strict (counts i) (counts_lt i) (logitsAt X W B E t s i)) (t : Fin 4) (s : Fin 2048) (n : Fin 3072) :
    val_main_v268 (F := Ideal) X W B E (ix3 t s n) = weights X W B E t s n := by
  rw [joined_apply, parts_apply, (hs t s (poolOf n)).routed_eq (turns_succ (poolOf n))]
  rfl

end Cert.ReferenceIdeal.Router
-- ==== Proof.Reference.NoTies.lean ====
/- The precondition read at a token: the k + 1 greatest logits of every pool strictly decrease and are below +∞. -/
module

public import proofs.«01_k».proof.Pre_no_ties
public import proofs.«01_k».proof.Proof.Reference.Result

@[expose] public section

noncomputable section

namespace Cert.ReferenceIdeal.Router

open Idealize.ShloMosaic Idealize.ShloMosaic.ValueIdx Cert.ReferenceIdeal Cert.ReferenceIdeal.Read Cert.Router

/-- The side conditions the precondition states. -/
theorem preFacts : Cert.Pre_no_ties.Facts := by
  constructor <;> decide

/-- The `k + 1` greatest of every row. -/
def greatest {k' : ℕ} (hf : S4x2048x512.Slices (fun _ => 0) (SK k')) (l : FVec Ideal S4x2048x512 .f32) : FVec Ideal (SK k') .f32 :=
  (Host.topK (SK k') 2 (FloatOps.cmpfTotal .gt) l hf).1

/-- Each above the next. -/
def decreasing {k k' : ℕ} (h0 : (SK k').Slices ![0, 0, 0] (SK k)) (h1 : (SK k').Slices ![0, 0, 1] (SK k)) (v : FVec Ideal (SK k') .f32) : IVec (SK k) 1 :=
  cmpf .ogt (extractStridedSlice (SK k) ![0, 0, 0] v h0) (extractStridedSlice (SK k) ![0, 0, 1] v h1)

/-- Each below +∞. -/
def belowTop {k' : ℕ} (hb : S_.BroadcastsInDim (SK k') (![] : Fin 0 → Fin (SK k').rank)) (v : FVec Ideal (SK k') .f32) : IVec (SK k') 1 :=
  cmpf .olt v (broadcastInDim (SK k') ![] hb (constant S_ .f32 0x7F800000#32))

/-- The bit of "greater" set. -/
theorem lt_of_ogt {a b : EReal} (h : Ideal.cmp .ogt a b = 1#1) : b < a := by
  have := cmp_ogt_beq a b
  rw [h] at this
  exact of_decide_eq_true this.symm

/-- The bit of "less" set. -/
theorem lt_of_olt {a b : EReal} (h : Ideal.cmp .olt a b = 1#1) : a < b := by
  unfold Ideal.cmp at h
  by_contra hn
  simp [hn] at h

/-- Both bits set everywhere, the rows' greatest logits strictly decrease and are below +∞. -/
theorem strict_of {k k' : ℕ} (hk : k' = k + 1) (hlt : k < 512) (hf : S4x2048x512.Slices (fun _ => 0) (SK k'))
    (h0 : (SK k').Slices ![0, 0, 0] (SK k)) (h1 : (SK k').Slices ![0, 0, 1] (SK k))
    (hb : S_.BroadcastsInDim (SK k') (![] : Fin 0 → Fin (SK k').rank)) (l : FVec Ideal S4x2048x512 .f32)
    (hd : decreasing h0 h1 (greatest hf l) = fun _ => 1#1) (ht : belowTop hb (greatest hf l) = fun _ => 1#1) (t : Fin 4) (s : Fin 2048) :
    Strict k hlt (row l t s) := by
  subst hk
  have hv : ∀ r : Fin (k + 1), greatest hf l (ix3 t s r) = row l t s (order (row l t s) (r.castLE hlt)) := fun r =>
    (topK_apply l hf hlt t s r).1
  refine ⟨fun r h => ?_, fun r h => ?_⟩
  · have e := congrFun hd (ix3 t s (⟨r, h⟩ : Fin k))
    have e' : Ideal.cmp .ogt (extractStridedSlice (SK k) ![0, 0, 0] (greatest hf l) h0 (ix3 t s (⟨r, h⟩ : Fin k)))
        (extractStridedSlice (SK k) ![0, 0, 1] (greatest hf l) h1 (ix3 t s (⟨r, h⟩ : Fin k))) = 1#1 := e
    rw [extractStridedSlice_apply _ _ _ _ (ix3 t s (⟨r, by omega⟩ : Fin (k + 1))) (fun a => by
        fin_cases a <;> exact (Nat.zero_add _).symm),
      extractStridedSlice_apply _ _ _ _ (ix3 t s (⟨r + 1, by omega⟩ : Fin (k + 1))) (fun a => by
        fin_cases a
        · exact (Nat.zero_add _).symm
        · exact (Nat.zero_add _).symm
        · exact Nat.add_comm r 1), hv, hv] at e'
    exact lt_of_ogt e'
  · have e := congrFun ht (ix3 t s (⟨r, by omega⟩ : Fin (k + 1)))
    have e' : Ideal.cmp .olt (greatest hf l (ix3 t s (⟨r, by omega⟩ : Fin (k + 1)))) (FloatOps.ofBits .f32 0x7F800000#32 : Ideal .f32) = 1#1 := e
    rw [hv, lit_top] at e'
    exact lt_of_olt e'

section

attribute [local instance] preFacts

open Cert.Pre_no_ties.Facts

variable (X : S4x2048x4096.Idx → EReal) (I : S4x2048.Idx → EReal) (W : S4096x384.Idx → EReal) (B : S384.Idx → EReal) (E : S5120x64.Idx → EReal)

/-- The precondition's pair of bit arrays for a pool of eight, -/
abbrev bits8 (l : FVec Ideal S4x2048x512 .f32) : IVec (SK 8) 1 × IVec (SK 9) 1 :=
  (decreasing slices_S4x2048x9_S4x2048x8_0_0_0 slices_S4x2048x9_S4x2048x8_0_0_1 (greatest sliceFits_S4x2048x512_S4x2048x9 l),
    belowTop bcast_S_S4x2048x9 (greatest sliceFits_S4x2048x512_S4x2048x9 l))

/-- and for a pool of three. -/
abbrev bits3 (l : FVec Ideal S4x2048x512 .f32) : IVec (SK 3) 1 × IVec (SK 4) 1 :=
  (decreasing slices_S4x2048x4_S4x2048x3_0_0_0 slices_S4x2048x4_S4x2048x3_0_0_1 (greatest sliceFits_S4x2048x512_S4x2048x4 l),
    belowTop bcast_S_S4x2048x4 (greatest sliceFits_S4x2048x512_S4x2048x4 l))

/-- The precondition's twelve bit arrays are those of the reference's logits. -/
theorem fn_eq : Cert.Pre_no_ties.fn (F := Ideal) X I W B E
    = ((bits8 (val_main_v17 (F := Ideal) X W B E)).1, (bits8 (val_main_v17 (F := Ideal) X W B E)).2,
      (bits8 (val_main_v59 (F := Ideal) X W B E)).1, (bits8 (val_main_v59 (F := Ideal) X W B E)).2,
      (bits3 (val_main_v101 (F := Ideal) X W B E)).1, (bits3 (val_main_v101 (F := Ideal) X W B E)).2,
      (bits8 (val_main_v143 (F := Ideal) X W B E)).1, (bits8 (val_main_v143 (F := Ideal) X W B E)).2,
      (bits8 (val_main_v185 (F := Ideal) X W B E)).1, (bits8 (val_main_v185 (F := Ideal) X W B E)).2,
      (bits3 (val_main_v227 (F := Ideal) X W B E)).1, (bits3 (val_main_v227 (F := Ideal) X W B E)).2) := rfl

/-- A token's row of an array that holds a pool's logits. -/
theorem row_eq (v : FVec Ideal S4x2048x512 .f32) (t : Fin 4) (s : Fin 2048) (f : Fin 512 → EReal) (h : ∀ j, v (ix3 t s j) = f j) :
    row v t s = f := funext h

/-- The precondition says that every token's logits are strict in every pool. -/
theorem strict_all
    (h0 : (Cert.Pre_no_ties.fn (F := Ideal) X I W B E).1 = fun _ => 1#1)
    (h1 : (Cert.Pre_no_ties.fn (F := Ideal) X I W B E).2.1 = fun _ => 1#1)
    (h2 : (Cert.Pre_no_ties.fn (F := Ideal) X I W B E).2.2.1 = fun _ => 1#1)
    (h3 : (Cert.Pre_no_ties.fn (F := Ideal) X I W B E).2.2.2.1 = fun _ => 1#1)
    (h4 : (Cert.Pre_no_ties.fn (F := Ideal) X I W B E).2.2.2.2.1 = fun _ => 1#1)
    (h5 : (Cert.Pre_no_ties.fn (F := Ideal) X I W B E).2.2.2.2.2.1 = fun _ => 1#1)
    (h6 : (Cert.Pre_no_ties.fn (F := Ideal) X I W B E).2.2.2.2.2.2.1 = fun _ => 1#1)
    (h7 : (Cert.Pre_no_ties.fn (F := Ideal) X I W B E).2.2.2.2.2.2.2.1 = fun _ => 1#1)
    (h8 : (Cert.Pre_no_ties.fn (F := Ideal) X I W B E).2.2.2.2.2.2.2.2.1 = fun _ => 1#1)
    (h9 : (Cert.Pre_no_ties.fn (F := Ideal) X I W B E).2.2.2.2.2.2.2.2.2.1 = fun _ => 1#1)
    (h10 : (Cert.Pre_no_ties.fn (F := Ideal) X I W B E).2.2.2.2.2.2.2.2.2.2.1 = fun _ => 1#1)
    (h11 : (Cert.Pre_no_ties.fn (F := Ideal) X I W B E).2.2.2.2.2.2.2.2.2.2.2 = fun _ => 1#1)
    (t : Fin 4) (s : Fin 2048) (i : Fin 6) : Strict (counts i) (counts_lt i) (logitsAt X W B E t s i) := by
  rw [fn_eq] at h0 h1 h2 h3 h4 h5 h6 h7 h8 h9 h10 h11
  have hi : i = 0 ∨ i = 1 ∨ i = 2 ∨ i = 3 ∨ i = 4 ∨ i = 5 := by revert i; decide
  rcases hi with rfl | rfl | rfl | rfl | rfl | rfl
  · rw [← row_eq (val_main_v17 (F := Ideal) X W B E) t s _ (logits0_apply X W B E t s)]
    exact strict_of rfl _ _ _ _ _ _ h0 h1 t s
  · rw [← row_eq (val_main_v59 (F := Ideal) X W B E) t s _ (logits1_apply X W B E t s)]
    exact strict_of rfl _ _ _ _ _ _ h2 h3 t s
  · rw [← row_eq (val_main_v101 (F := Ideal) X W B E) t s _ (logits2_apply X W B E t s)]
    exact strict_of rfl _ _ _ _ _ _ h4 h5 t s
  · rw [← row_eq (val_main_v143 (F := Ideal) X W B E) t s _ (logits3_apply X W B E t s)]
    exact strict_of rfl _ _ _ _ _ _ h6 h7 t s
  · rw [← row_eq (val_main_v185 (F := Ideal) X W B E) t s _ (logits4_apply X W B E t s)]
    exact strict_of rfl _ _ _ _ _ _ h8 h9 t s
  · rw [← row_eq (val_main_v227 (F := Ideal) X W B E) t s _ (logits5_apply X W B E t s)]
    exact strict_of rfl _ _ _ _ _ _ h10 h11 t s

end

end Cert.ReferenceIdeal.Router
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Kernel.Run
public import proofs.«01_k».proof.Proof.Reference.NoTies
public import Idealize.ShloMosaic.Adequacy
public import Idealize.ShloMosaic.Init

@[expose] public section

noncomputable section

namespace Cert.Proof

open Idealize.ShloMosaic Idealize.ShloMosaic.ValueIdx Idealize.SL.Sem Cert.Router

/-- The kernel as written runs, leaves its arguments alone and ends with its counters at zero. -/
theorem frame_kernel : Cert.quiescent_Kernel := fun m g _ => Cert.Kernel.Gen.frame m g

/-- So does the kernel over the extended reals. -/
theorem frame_ideal : Cert.quiescent_KernelIdeal := fun m g _ => Cert.KernelIdeal.Gen.frame m g

/-- So does the reference, which has no counters. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The reference's result array, at arguments without ties, is the routing weights. -/
theorem reference_eq (X : Cert.ReferenceIdeal.S4x2048x4096.Idx → EReal) (W : Cert.ReferenceIdeal.S4096x384.Idx → EReal)
    (B : Cert.ReferenceIdeal.S384.Idx → EReal) (E : Cert.ReferenceIdeal.S5120x64.Idx → EReal)
    (hs : ∀ t s i, Strict (Cert.ReferenceIdeal.Router.counts i) (Cert.ReferenceIdeal.Router.counts_lt i)
      (Cert.ReferenceIdeal.Router.logitsAt X W B E t s i)) :
    Cert.ReferenceIdeal.Read.val_main_v268 (F := Ideal) X W B E = fun i => weights X W B E (i 0) (i 1) (i 2) := by
  funext i
  have hi : i = ix3 (i 0) (i 1) (i 2) := by
    funext a
    fin_cases a <;> rfl
  exact (congrArg (Cert.ReferenceIdeal.Read.val_main_v268 (F := Ideal) X W B E) hi).trans
    (Cert.ReferenceIdeal.Router.result_eq X W B E hs (i 0) (i 1) (i 2))

attribute [local instance] Cert.ReferenceIdeal.Router.preFacts

/-- The precondition gives strict logits of every token and pool. -/
theorem strict (m : (ℓ : Loc Cert.KernelIdeal.nD Cert.KernelIdeal.τ Cert.KernelIdeal.sig) → Buf (Elt Ideal) ℓ)
    (h : Cert.Pre_KernelIdeal_no_ties m) (c : Dev Cert.KernelIdeal.nD) (t : Fin 4) (s : Fin 2048) (i : Fin 6) :
    Strict (Cert.ReferenceIdeal.Router.counts i) (Cert.ReferenceIdeal.Router.counts_lt i)
      (Cert.ReferenceIdeal.Router.logitsAt (Cert.KernelIdeal.Router.argX m c) (Cert.KernelIdeal.Router.argW m c)
        (Cert.KernelIdeal.Router.argB m c) (Cert.KernelIdeal.Router.argE m c) t s i) := by
  obtain ⟨h0, h1, h2, h3, h4, h5, h6, h7, h8, h9, h10, h11⟩ := h c
  exact Cert.ReferenceIdeal.Router.strict_all _ _ _ _ _ h0 h1 h2 h3 h4 h5 h6 h7 h8 h9 h10 h11 t s i

/-- Kernel and reference end with the same routing weights. -/
theorem equal : Cert.algebraic_KernelIdeal_ReferenceIdeal_pre_no_ties := fun m g m' g' hp ha =>
  ⟨fun c => Cert.KernelIdeal.Router.output m c, Cert.KernelIdeal.Router.run m g,
    (θ_run Cert.ReferenceIdeal.defs _ _).mono (fun r h c => ⟨by
        refine (h c).1.trans ((Cert.ReferenceIdeal.Read.val_main_v268_eq _).trans ?_)
        rw [StableHlo.launchContents_devRef, StableHlo.launchContents_devRef, StableHlo.launchContents_devRef, StableHlo.launchContents_devRef,
          (ha c).1, (ha c).2.2.1, (ha c).2.2.2.1, (ha c).2.2.2.2]
        exact reference_eq _ _ _ _ (strict m hp c), (h c).2⟩)
      (Cert.ReferenceIdeal.Value.run (F := Ideal) m' g')⟩

/-- All the claims. -/
theorem claim : Cert.Claim := ⟨Cert.Kernel.Gen.facts, Cert.KernelIdeal.Gen.facts, Cert.ReferenceIdeal.Gen.facts, Cert.ReferenceIdeal.Router.preFacts,
  frame_kernel, frame_ideal, fun m g _ => frame_ideal m g trivial, frame_reference, fun m g _ => frame_reference m g trivial, trivial, equal⟩

end Cert.Proof

end
